-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.Statement Cert.KernelIdeal.S200x128 Cert.KernelIdeal.S100x128
  ∧ IdealRules.bf16_pack.Statement Cert.KernelIdeal.S100x128

def algebraic_KernelIdeal_ReferenceIdeal_on_where_finite [hKernelIdeal : Cert.KernelIdeal.Facts] [hReferenceIdeal : Cert.ReferenceIdeal.Facts] [hOn_where_finite : Cert.On_where_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![6144, 4992]⟩ : Shape).Idx, (Cert.On_where_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 i = 1#1 → r.2.mem ((c.tc : Thread Cert.KernelIdeal.nD Cert.KernelIdeal.τ).loc Cert.KernelIdeal.main_v5_0) i = v0 c i)
          ∧ (∀ i : (⟨3, ![6144, 12, 256]⟩ : Shape).Idx, (Cert.On_where_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 i = 1#1 → r.2.mem ((c.tc : Thread Cert.KernelIdeal.nD Cert.KernelIdeal.τ).loc Cert.KernelIdeal.main_v6) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![6144, 4992]⟩ : Shape).Idx, (Cert.On_where_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 i = 1#1 → r.2.mem ((c.tc : Thread Cert.ReferenceIdeal.nD Cert.ReferenceIdeal.τ).loc Cert.ReferenceIdeal.main_v48) i = v0 c i)
          ∧ (∀ i : (⟨3, ![6144, 12, 256]⟩ : Shape).Idx, (Cert.On_where_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 i = 1#1 → r.2.mem ((c.tc : Thread Cert.ReferenceIdeal.nD Cert.ReferenceIdeal.τ).loc Cert.ReferenceIdeal.main_v0) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hOn_where_finite : Cert.On_where_finite.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_where_finite (hKernelIdeal := hKernelIdeal) (hReferenceIdeal := hReferenceIdeal) (hOn_where_finite := hOn_where_finite)
-- ==== On_where_finite.lean ====
abbrev S6144x200 : Shape := ⟨2, ![6144, 200]⟩
abbrev S12x256x200 : Shape := ⟨3, ![12, 256, 200]⟩
abbrev S4992x4 : Shape := ⟨2, ![4992, 4]⟩
abbrev S256 : Shape := ⟨1, ![256]⟩
abbrev S_ : Shape := ⟨0, ![]⟩
abbrev S6144 : Shape := ⟨1, ![6144]⟩
abbrev S6144x1 : Shape := ⟨2, ![6144, 1]⟩
abbrev S6144x4992 : Shape := ⟨2, ![6144, 4992]⟩
abbrev S6144x12x256 : Shape := ⟨3, ![6144, 12, 256]⟩

class Facts : Prop where
  bitsLt_bf16_f32 : FTy.bits .bf16 < FTy.bits .f32
  bcast_S_S6144x200 : S_.BroadcastsInDim S6144x200 (![] : Fin 0 → Fin S6144x200.rank)
  reducesTo_S6144x200_S6144_d1 : S6144x200.ReducesTo [1] S6144
  h_S_ : 0 < S_.numel
  bcast_S_S12x256x200 : S_.BroadcastsInDim S12x256x200 (![] : Fin 0 → Fin S12x256x200.rank)
  reducesTo_S12x256x200_S_d0_1_2 : S12x256x200.ReducesTo [0, 1, 2] S_
  bcast_S_S6144 : S_.BroadcastsInDim S6144 (![] : Fin 0 → Fin S6144.rank)
  bcast_S6144_S6144x1_0 : S6144.BroadcastsInDim S6144x1 (![0] : Fin 1 → Fin S6144x1.rank)
  bcast_S6144x1_S6144x4992_0_1 : S6144x1.BroadcastsInDim S6144x4992 (![0, 1] : Fin 2 → Fin S6144x4992.rank)
  bcast_S_S6144x12x256 : S_.BroadcastsInDim S6144x12x256 (![] : Fin 0 → Fin S6144x12x256.rank)

variable [Facts]

def fn {F : FTy → Type} [FloatOps F] (main_arg0 : FVec F S6144x200 .bf16) (main_arg1 : FVec F S12x256x200 .bf16) (main_arg2 : IVec S4992x4 32) (main_arg3 : FVec F S256 .f32) : IVec S6144x4992 1 × IVec S6144x12x256 1 :=
  let main_v0 : FVec F S6144x200 .f32 := (extf .f32 · bitsLt_bf16_f32) main_arg0
  let main_v1 : FVec F S6144x200 .f32 := Host.absf main_v0
  let main_cst : FVec F S_ .f32 := constant S_ .f32 0x7F800000#32
  let main_v2 : FVec F S6144x200 .f32 := broadcastInDim S6144x200 ![] bcast_S_S6144x200 main_cst
  let main_v3 : IVec S6144x200 1 := cmpf .olt main_v1 main_v2
  let main_c : IVec S_ 1 := constantI S_ 1 1#1
  let main_v4 : IVec S6144 1 := (fun x v => Host.reduce IntOp.andi x v reducesTo_S6144x200_S6144_d1 h_S_) main_v3 main_c
  let main_v5 : FVec F S12x256x200 .f32 := (extf .f32 · bitsLt_bf16_f32) main_arg1
  let main_v6 : FVec F S12x256x200 .f32 := Host.absf main_v5
  let main_cst_0 : FVec F S_ .f32 := constant S_ .f32 0x7F800000#32
  let main_v7 : FVec F S12x256x200 .f32 := broadcastInDim S12x256x200 ![] bcast_S_S12x256x200 main_cst_0
  let main_v8 : IVec S12x256x200 1 := cmpf .olt main_v6 main_v7
  let main_c_1 : IVec S_ 1 := constantI S_ 1 1#1
  let main_v9 : IVec S_ 1 := (fun x v => Host.reduce IntOp.andi x v reducesTo_S12x256x200_S_d0_1_2 h_S_) main_v8 main_c_1
  let main_v10 : IVec S6144 1 := broadcastInDim S6144 ![] bcast_S_S6144 main_v9
  let main_v11 : IVec S6144 1 := andi main_v4 main_v10
  let main_v12 : IVec S6144x1 1 := broadcastInDim S6144x1 ![0] bcast_S6144_S6144x1_0 main_v11
  let main_v13 : IVec S6144x4992 1 := broadcastInDim S6144x4992 ![0, 1] bcast_S6144x1_S6144x4992_0_1 main_v12
  let main_c_2 : IVec S_ 1 := constantI S_ 1 1#1
  let main_v14 : IVec S6144x12x256 1 := broadcastInDim S6144x12x256 ![] bcast_S_S6144x12x256 main_c_2
  (main_v13, main_v14)
-- ==== Kernel.lean ====
abbrev S6144x200 : Shape := ⟨2, ![6144, 200]⟩
abbrev S12x256x200 : Shape := ⟨3, ![12, 256, 200]⟩
abbrev S4992x4 : Shape := ⟨2, ![4992, 4]⟩
abbrev S256 : Shape := ⟨1, ![256]⟩
abbrev S200x6144 : Shape := ⟨2, ![200, 6144]⟩
abbrev S12x200x256 : Shape := ⟨3, ![12, 200, 256]⟩
abbrev S4x4992 : Shape := ⟨2, ![4, 4992]⟩
abbrev S1x256 : Shape := ⟨2, ![1, 256]⟩
abbrev S6144x4992 : Shape := ⟨2, ![6144, 4992]⟩
abbrev S12x6144x256 : Shape := ⟨3, ![12, 6144, 256]⟩
abbrev S200x256 : Shape := ⟨2, ![200, 256]⟩
abbrev S256x4992 : Shape := ⟨2, ![256, 4992]⟩
abbrev S12x256x256 : Shape := ⟨3, ![12, 256, 256]⟩
abbrev S24x256x768 : Shape := ⟨3, ![24, 256, 768]⟩
abbrev S768x5120 : Shape := ⟨2, ![768, 5120]⟩
abbrev S8x4992 : Shape := ⟨2, ![8, 4992]⟩
abbrev S1x200x256 : Shape := ⟨3, ![1, 200, 256]⟩
abbrev S56x256 : Shape := ⟨2, ![56, 256]⟩
abbrev S256x256 : Shape := ⟨2, ![256, 256]⟩
abbrev S1x256x256 : Shape := ⟨3, ![1, 256, 256]⟩
abbrev S100x128 : Shape := ⟨2, ![100, 128]⟩
abbrev S1x128 : Shape := ⟨2, ![1, 128]⟩
abbrev S128 : Shape := ⟨1, ![128]⟩
abbrev S1x200x128 : Shape := ⟨3, ![1, 200, 128]⟩
abbrev S200x128 : Shape := ⟨2, ![200, 128]⟩
abbrev S100x128x1 : Shape := ⟨3, ![100, 128, 1]⟩
abbrev S8x128 : Shape := ⟨2, ![8, 128]⟩
abbrev S8x128x1 : Shape := ⟨3, ![8, 128, 1]⟩
abbrev S1x256x768 : Shape := ⟨3, ![1, 256, 768]⟩
abbrev S256x768 : Shape := ⟨2, ![256, 768]⟩
abbrev S256x1 : Shape := ⟨2, ![256, 1]⟩
abbrev S768x512 : Shape := ⟨2, ![768, 512]⟩
abbrev S256x512 : Shape := ⟨2, ![256, 512]⟩
abbrev S1x512 : Shape := ⟨2, ![1, 512]⟩
abbrev S768x384 : Shape := ⟨2, ![768, 384]⟩
abbrev S256x384 : Shape := ⟨2, ![256, 384]⟩
abbrev S1x384 : Shape := ⟨2, ![1, 384]⟩
abbrev S6144x12x256 : Shape := ⟨3, ![6144, 12, 256]⟩

abbrev nBuf : Space → Nat
  | .hbm => 12
  | .vmem => 13
  | .smem => 0
  | _ => 0

abbrev bufTy : (tb : Table) → Fin (tcTables nBuf tb) → BufTy
  | .hbm, ⟨0, _⟩ => ⟨S6144x200, .bf16⟩
  | .hbm, ⟨1, _⟩ => ⟨S12x256x200, .bf16⟩
  | .hbm, ⟨2, _⟩ => ⟨S4992x4, .i32⟩
  | .hbm, ⟨3, _⟩ => ⟨S256, .f32⟩
  | .hbm, ⟨4, _⟩ => ⟨S200x6144, .bf16⟩
  | .hbm, ⟨5, _⟩ => ⟨S12x200x256, .bf16⟩
  | .hbm, ⟨6, _⟩ => ⟨S4992x4, .i32⟩
  | .hbm, ⟨7, _⟩ => ⟨S4x4992, .i32⟩
  | .hbm, ⟨8, _⟩ => ⟨S1x256, .f32⟩
  | .hbm, ⟨9, _⟩ => ⟨S6144x4992, .f32⟩
  | .hbm, ⟨10, _⟩ => ⟨S12x6144x256, .f32⟩
  | .hbm, ⟨11, _⟩ => ⟨S6144x12x256, .f32⟩
  | .local _ .vmem, ⟨0, _⟩ => ⟨S200x256, .bf16⟩
  | .local _ .vmem, ⟨1, _⟩ => ⟨S200x256, .bf16⟩
  | .local _ .vmem, ⟨2, _⟩ => ⟨S12x200x256, .bf16⟩
  | .local _ .vmem, ⟨3, _⟩ => ⟨S4x4992, .i32⟩
  | .local _ .vmem, ⟨4, _⟩ => ⟨S1x256, .f32⟩
  | .local _ .vmem, ⟨5, _⟩ => ⟨S256x4992, .f32⟩
  | .local _ .vmem, ⟨6, _⟩ => ⟨S256x4992, .f32⟩
  | .local _ .vmem, ⟨7, _⟩ => ⟨S12x256x256, .f32⟩
  | .local _ .vmem, ⟨8, _⟩ => ⟨S12x256x256, .f32⟩
  | .local _ .vmem, ⟨9, _⟩ => ⟨S24x256x768, .bf16⟩
  | .local _ .vmem, ⟨10, _⟩ => ⟨S12x256x256, .bf16⟩
  | .local _ .vmem, ⟨11, _⟩ => ⟨S768x5120, .bf16⟩
  | .local _ .vmem, ⟨12, _⟩ => ⟨S8x4992, .f32⟩
  | _, _ => ⟨S6144x200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [BitOps F]

abbrev grid0 : Pipeline.Grid := ⟨1, ![27], ![false]⟩

def k0_cond2 (i : grid0.Coords) : BitVec 1 :=
  let arg0 : BitVec 32 := BitVec.ofNat 32 (i 0).val
  let c24_i32 : BitVec 32 := 24#32
  let v3 : BitVec 1 := Scalar.cmpi .slt arg0 c24_i32
  let v4 : BitVec 32 := Scalar.extui v3
  let c0_i32_1 : BitVec 32 := 0#32
  let v5 : BitVec 1 := Scalar.cmpi .ne v4 c0_i32_1
  v5

def k0_off1 (i : grid0.Coords) : Fin 3 → Nat :=
  let arg0 : BitVec 32 := BitVec.ofNat 32 (i 0).val
  let v17 : Index := Scalar.indexCast arg0
  let c0_6 : Index := 0#32
  let c0_7 : Index := 0#32
  ![v17.toNat, 0, 0]
def k0_off2 (i : grid0.Coords) : Fin 3 → Nat :=
  let arg0 : BitVec 32 := BitVec.ofNat 32 (i 0).val
  let v21 : Index := Scalar.indexCast arg0
  let c0_8 : Index := 0#32
  let c256 : Index := 256#32
  ![v21.toNat, 0, 256]
def k0_off3 (i : grid0.Coords) : Fin 3 → Nat :=
  let arg0 : BitVec 32 := BitVec.ofNat 32 (i 0).val
  let v25 : Index := Scalar.indexCast arg0
  let c0_9 : Index := 0#32
  let c512 : Index := 512#32
  ![v25.toNat, 0, 512]
def k0_cond3 (i : grid0.Coords) : BitVec 1 :=
  let arg0 : BitVec 32 := BitVec.ofNat 32 (i 0).val
  let c3_i32 : BitVec 32 := 3#32
  let v6 : BitVec 1 := Scalar.cmpi .slt arg0 c3_i32
  let v7 : BitVec 32 := Scalar.extui v6
  let c0_i32_2 : BitVec 32 := 0#32
  let v8 : BitVec 1 := Scalar.cmpi .ne v7 c0_i32_2
  v8

@[reducible] def k0_t1_loop : Scf.Loop 32 :=
  let c0_i32_5 : BitVec 32 := 0#32
  let c13_i32 : BitVec 32 := 13#32
  let v12 : BitVec 32 := Scalar.addi c0_i32_5 c13_i32
  let c1_i32 : BitVec 32 := 1#32
  ⟨c0_i32_5, v12, c1_i32⟩
def k0_mult1 (i : grid0.Coords) (k0_t1 : Fin k0_t1_loop.trips) : BitVec 32 :=
  let arg0 : BitVec 32 := BitVec.ofNat 32 (i 0).val
  let c13_i32_9 : BitVec 32 := 13#32
  let v15 : BitVec 32 := Scalar.muli arg0 c13_i32_9
  let c0_i32_8 : BitVec 32 := 0#32
  let c0_i32_5 : BitVec 32 := 0#32
  let c1_i32 : BitVec 32 := 1#32
  let arg11 : BitVec 32 := Scf.iv c0_i32_5 c1_i32 k0_t1
  let c1_i32_7 : BitVec 32 := 1#32
  let v13 : BitVec 32 := Scalar.muli arg11 c1_i32_7
  let v14 : BitVec 32 := Scalar.addi c0_i32_8 v13
  let v16 : BitVec 32 := Scalar.addi v15 v14
  let c128_i32 : BitVec 32 := 128#32
  let v17 : BitVec 32 := Scalar.muli v16 c128_i32
  v17
def k0_off4 (i : grid0.Coords) (k0_t1 : Fin k0_t1_loop.trips) : Fin 2 → Nat :=
  let c0 : Index := 0#32
  let arg0 : BitVec 32 := BitVec.ofNat 32 (i 0).val
  let c13_i32_9 : BitVec 32 := 13#32
  let v15 : BitVec 32 := Scalar.muli arg0 c13_i32_9
  let c0_i32_8 : BitVec 32 := 0#32
  let c0_i32_5 : BitVec 32 := 0#32
  let c1_i32 : BitVec 32 := 1#32
  let arg11 : BitVec 32 := Scf.iv c0_i32_5 c1_i32 k0_t1
  let c1_i32_7 : BitVec 32 := 1#32
  let v13 : BitVec 32 := Scalar.muli arg11 c1_i32_7
  let v14 : BitVec 32 := Scalar.addi c0_i32_8 v13
  let v16 : BitVec 32 := Scalar.addi v15 v14
  let c128_i32 : BitVec 32 := 128#32
  let v17 : BitVec 32 := Scalar.muli v16 c128_i32
  let v18 : BitVec 32 := v17
  let v21 : Index := Scalar.indexCast v18
  ![0, v21.toNat]
def k0_off5 (i : grid0.Coords) (k0_t1 : Fin k0_t1_loop.trips) : Fin 2 → Nat :=
  let c1_101 : Index := 1#32
  let arg0 : BitVec 32 := BitVec.ofNat 32 (i 0).val
  let c13_i32_9 : BitVec 32 := 13#32
  let v15 : BitVec 32 := Scalar.muli arg0 c13_i32_9
  let c0_i32_8 : BitVec 32 := 0#32
  let c0_i32_5 : BitVec 32 := 0#32
  let c1_i32 : BitVec 32 := 1#32
  let arg11 : BitVec 32 := Scf.iv c0_i32_5 c1_i32 k0_t1
  let c1_i32_7 : BitVec 32 := 1#32
  let v13 : BitVec 32 := Scalar.muli arg11 c1_i32_7
  let v14 : BitVec 32 := Scalar.addi c0_i32_8 v13
  let v16 : BitVec 32 := Scalar.addi v15 v14
  let c128_i32 : BitVec 32 := 128#32
  let v17 : BitVec 32 := Scalar.muli v16 c128_i32
  let v18 : BitVec 32 := v17
  let v309 : Index := Scalar.indexCast v18
  ![1, v309.toNat]
def k0_off6 (i : grid0.Coords) (k0_t1 : Fin k0_t1_loop.trips) : Fin 2 → Nat :=
  let c2_197 : Index := 2#32
  let arg0 : BitVec 32 := BitVec.ofNat 32 (i 0).val
  let c13_i32_9 : BitVec 32 := 13#32
  let v15 : BitVec 32 := Scalar.muli arg0 c13_i32_9
  let c0_i32_8 : BitVec 32 := 0#32
  let c0_i32_5 : BitVec 32 := 0#32
  let c1_i32 : BitVec 32 := 1#32
  let arg11 : BitVec 32 := Scf.iv c0_i32_5 c1_i32 k0_t1
  let c1_i32_7 : BitVec 32 := 1#32
  let v13 : BitVec 32 := Scalar.muli arg11 c1_i32_7
  let v14 : BitVec 32 := Scalar.addi c0_i32_8 v13
  let v16 : BitVec 32 := Scalar.addi v15 v14
  let c128_i32 : BitVec 32 := 128#32
  let v17 : BitVec 32 := Scalar.muli v16 c128_i32
  let v18 : BitVec 32 := v17
  let v597 : Index := Scalar.indexCast v18
  ![2, v597.toNat]
def k0_off7 (i : grid0.Coords) (k0_t1 : Fin k0_t1_loop.trips) : Fin 2 → Nat :=
  let c0_301 : Index := 0#32
  let arg0 : BitVec 32 := BitVec.ofNat 32 (i 0).val
  let c13_i32_9 : BitVec 32 := 13#32
  let v15 : BitVec 32 := Scalar.muli arg0 c13_i32_9
  let c0_i32_8 : BitVec 32 := 0#32
  let c0_i32_5 : BitVec 32 := 0#32
  let c1_i32 : BitVec 32 := 1#32
  let arg11 : BitVec 32 := Scf.iv c0_i32_5 c1_i32 k0_t1
  let c1_i32_7 : BitVec 32 := 1#32
  let v13 : BitVec 32 := Scalar.muli arg11 c1_i32_7
  let v14 : BitVec 32 := Scalar.addi c0_i32_8 v13
  let v16 : BitVec 32 := Scalar.addi v15 v14
  let c128_i32 : BitVec 32 := 128#32
  let v17 : BitVec 32 := Scalar.muli v16 c128_i32
  let v18 : BitVec 32 := v17
  let v917 : Index := Scalar.indexCast v18
  ![0, v917.toNat]
def k0_off8 (i : grid0.Coords) (k0_t1 : Fin k0_t1_loop.trips) : Fin 2 → Nat :=
  let c256 : Index := 256#32
  let arg0 : BitVec 32 := BitVec.ofNat 32 (i 0).val
  let c13_i32_9 : BitVec 32 := 13#32
  let v15 : BitVec 32 := Scalar.muli arg0 c13_i32_9
  let c0_i32_8 : BitVec 32 := 0#32
  let c0_i32_5 : BitVec 32 := 0#32
  let c1_i32 : BitVec 32 := 1#32
  let arg11 : BitVec 32 := Scf.iv c0_i32_5 c1_i32 k0_t1
  let c1_i32_7 : BitVec 32 := 1#32
  let v13 : BitVec 32 := Scalar.muli arg11 c1_i32_7
  let v14 : BitVec 32 := Scalar.addi c0_i32_8 v13
  let v16 : BitVec 32 := Scalar.addi v15 v14
  let c128_i32 : BitVec 32 := 128#32
  let v17 : BitVec 32 := Scalar.muli v16 c128_i32
  let v18 : BitVec 32 := v17
  let v927 : Index := Scalar.indexCast v18
  ![256, v927.toNat]
def k0_off9 (i : grid0.Coords) (k0_t1 : Fin k0_t1_loop.trips) : Fin 2 → Nat :=
  let c512 : Index := 512#32
  let arg0 : BitVec 32 := BitVec.ofNat 32 (i 0).val
  let c13_i32_9 : BitVec 32 := 13#32
  let v15 : BitVec 32 := Scalar.muli arg0 c13_i32_9
  let c0_i32_8 : BitVec 32 := 0#32
  let c0_i32_5 : BitVec 32 := 0#32
  let c1_i32 : BitVec 32 := 1#32
  let arg11 : BitVec 32 := Scf.iv c0_i32_5 c1_i32 k0_t1
  let c1_i32_7 : BitVec 32 := 1#32
  let v13 : BitVec 32 := Scalar.muli arg11 c1_i32_7
  let v14 : BitVec 32 := Scalar.addi c0_i32_8 v13
  let v16 : BitVec 32 := Scalar.addi v15 v14
  let c128_i32 : BitVec 32 := 128#32
  let v17 : BitVec 32 := Scalar.muli v16 c128_i32
  let v18 : BitVec 32 := v17
  let v937 : Index := Scalar.indexCast v18
  ![512, v937.toNat]
def k0_off10 (i : grid0.Coords) (k0_t1 : Fin k0_t1_loop.trips) : Fin 2 → Nat :=
  let c3_306 : Index := 3#32
  let arg0 : BitVec 32 := BitVec.ofNat 32 (i 0).val
  let c13_i32_9 : BitVec 32 := 13#32
  let v15 : BitVec 32 := Scalar.muli arg0 c13_i32_9
  let c0_i32_8 : BitVec 32 := 0#32
  let c0_i32_5 : BitVec 32 := 0#32
  let c1_i32 : BitVec 32 := 1#32
  let arg11 : BitVec 32 := Scf.iv c0_i32_5 c1_i32 k0_t1
  let c1_i32_7 : BitVec 32 := 1#32
  let v13 : BitVec 32 := Scalar.muli arg11 c1_i32_7
  let v14 : BitVec 32 := Scalar.addi c0_i32_8 v13
  let v16 : BitVec 32 := Scalar.addi v15 v14
  let c128_i32 : BitVec 32 := 128#32
  let v17 : BitVec 32 := Scalar.muli v16 c128_i32
  let v18 : BitVec 32 := v17
  let v941 : Index := Scalar.indexCast v18
  ![3, v941.toNat]
def k0_off11 (i : grid0.Coords) (k0_t1 : Fin k0_t1_loop.trips) : Fin 2 → Nat :=
  let c0_319 : Index := 0#32
  let arg0 : BitVec 32 := BitVec.ofNat 32 (i 0).val
  let c13_i32_9 : BitVec 32 := 13#32
  let v15 : BitVec 32 := Scalar.muli arg0 c13_i32_9
  let c0_i32_8 : BitVec 32 := 0#32
  let c0_i32_5 : BitVec 32 := 0#32
  let c1_i32 : BitVec 32 := 1#32
  let arg11 : BitVec 32 := Scf.iv c0_i32_5 c1_i32 k0_t1
  let c1_i32_7 : BitVec 32 := 1#32
  let v13 : BitVec 32 := Scalar.muli arg11 c1_i32_7
  let v14 : BitVec 32 := Scalar.addi c0_i32_8 v13
  let v16 : BitVec 32 := Scalar.addi v15 v14
  let c128_i32 : BitVec 32 := 128#32
  let v17 : BitVec 32 := Scalar.muli v16 c128_i32
  let v18 : BitVec 32 := v17
  let v980 : Index := Scalar.indexCast v18
  ![0, v980.toNat]
def k0_cond4 (i : grid0.Coords) : BitVec 1 :=
  let arg0 : BitVec 32 := BitVec.ofNat 32 (i 0).val
  let c3_i32_3 : BitVec 32 := 3#32
  let v9 : BitVec 1 := Scalar.cmpi .sge arg0 c3_i32_3
  let v10 : BitVec 32 := Scalar.extui v9
  let c0_i32_4 : BitVec 32 := 0#32
  let v11 : BitVec 1 := Scalar.cmpi .ne v10 c0_i32_4
  v11

def k0_off12 (i : grid0.Coords) : Fin 3 → Nat :=
  let arg0 : BitVec 32 := BitVec.ofNat 32 (i 0).val
  let c3_i32_5 : BitVec 32 := 3#32
  let v12 : BitVec 32 := Scalar.subi arg0 c3_i32_5
  let v13 : Index := Scalar.indexCast v12
  let c0 : Index := 0#32
  let c0_6 : Index := 0#32
  ![v13.toNat, 0, 0]
def cc0_transform_0 (i : grid0.Coords) : Fin 2 → Nat :=
  let arg0 : BitVec 32 := BitVec.ofNat 32 (i 0).val
  let c23_i32 : BitVec 32 := 23#32
  let v0 : BitVec 32 := Scalar.minsi arg0 c23_i32
  let c0_i32 : BitVec 32 := 0#32
  let c0_i32_0 : BitVec 32 := 0#32
  ![c0_i32.toNat, v0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c3_i32 : BitVec 32 := 3#32
  let v0 : BitVec 32 := Scalar.subi arg0 c3_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 3 → Nat :=
  let arg0 : BitVec 32 := BitVec.ofNat 32 (i 0).val
  let c23_i32 : BitVec 32 := 23#32
  let v0 : BitVec 32 := Scalar.minsi arg0 c23_i32
  let c0_i32 : BitVec 32 := 0#32
  let c0_i32_0 : BitVec 32 := 0#32
  let c0_i32_1 : BitVec 32 := 0#32
  ![c0_i32.toNat, v0.toNat, c0_i32_0.toNat]

abbrev stage0_0 : Fin 2 → Memref sig .tc .vmem S200x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S12x200x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x4992 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4992 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S12x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F]
-- ==== ReferenceIdeal.lean ====
abbrev S6144x200 : Shape := ⟨2, ![6144, 200]⟩
abbrev S12x256x200 : Shape := ⟨3, ![12, 256, 200]⟩
abbrev S4992x4 : Shape := ⟨2, ![4992, 4]⟩
abbrev S256 : Shape := ⟨1, ![256]⟩
abbrev S6144x12x256 : Shape := ⟨3, ![6144, 12, 256]⟩
abbrev S_ : Shape := ⟨0, ![]⟩
abbrev S6144 : Shape := ⟨1, ![6144]⟩
abbrev S4 : Shape := ⟨1, ![4]⟩
abbrev S4992x4x1 : Shape := ⟨3, ![4992, 4, 1]⟩
abbrev S1x1x4 : Shape := ⟨3, ![1, 1, 4]⟩
abbrev S4992x4x4 : Shape := ⟨3, ![4992, 4, 4]⟩
abbrev S4992x16 : Shape := ⟨2, ![4992, 16]⟩
abbrev S4992x12 : Shape := ⟨2, ![4992, 12]⟩
abbrev S4992x1 : Shape := ⟨2, ![4992, 1]⟩
abbrev S4992 : Shape := ⟨1, ![4992]⟩
abbrev S12 : Shape := ⟨1, ![12]⟩
abbrev S1x12 : Shape := ⟨2, ![1, 12]⟩
abbrev S6144x3072 : Shape := ⟨2, ![6144, 3072]⟩
abbrev S4992x12x1 : Shape := ⟨3, ![4992, 12, 1]⟩
abbrev S6144x4992x12 : Shape := ⟨3, ![6144, 4992, 12]⟩
abbrev S6144x4992 : Shape := ⟨2, ![6144, 4992]⟩
abbrev S6144x1 : Shape := ⟨2, ![6144, 1]⟩
abbrev S1x4992 : Shape := ⟨2, ![1, 4992]⟩

abbrev nBuf : Space → Nat
  | .hbm => 63
  | .vmem => 0
  | .smem => 0
  | _ => 0

abbrev bufTy : (tb : Table) → Fin (tcTables nBuf tb) → BufTy
  | .hbm, ⟨0, _⟩ => ⟨S6144x200, .bf16⟩
  | .hbm, ⟨1, _⟩ => ⟨S12x256x200, .bf16⟩
  | .hbm, ⟨2, _⟩ => ⟨S4992x4, .i32⟩
  | .hbm, ⟨3, _⟩ => ⟨S256, .f32⟩
  | .hbm, ⟨4, _⟩ => ⟨S6144x12x256, .f32⟩
  | .hbm, ⟨5, _⟩ => ⟨S6144x200, .f32⟩
  | .hbm, ⟨6, _⟩ => ⟨S6144x200, .f32⟩
  | .hbm, ⟨7, _⟩ => ⟨S_, .f32⟩
  | .hbm, ⟨8, _⟩ => ⟨S6144, .f32⟩
  | .hbm, ⟨9, _⟩ => ⟨S4, .i32⟩
  | .hbm, ⟨10, _⟩ => ⟨S_, .i32⟩
  | .hbm, ⟨11, _⟩ => ⟨S4, .i32⟩
  | .hbm, ⟨12, _⟩ => ⟨S4, .i32⟩
  | .hbm, ⟨13, _⟩ => ⟨S4992x4x1, .i32⟩
  | .hbm, ⟨14, _⟩ => ⟨S1x1x4, .i32⟩
  | .hbm, ⟨15, _⟩ => ⟨S4992x4x4, .i32⟩
  | .hbm, ⟨16, _⟩ => ⟨S4992x4x4, .i32⟩
  | .hbm, ⟨17, _⟩ => ⟨S4992x4x4, .i32⟩
  | .hbm, ⟨18, _⟩ => ⟨S_, .i32⟩
  | .hbm, ⟨19, _⟩ => ⟨S4992x4x4, .i32⟩
  | .hbm, ⟨20, _⟩ => ⟨S4992x4x4, .i32⟩
  | .hbm, ⟨21, _⟩ => ⟨S4992x16, .i32⟩
  | .hbm, ⟨22, _⟩ => ⟨S4992x16, .i32⟩
  | .hbm, ⟨23, _⟩ => ⟨S4992x12, .i32⟩
  | .hbm, ⟨24, _⟩ => ⟨S4992x1, .i32⟩
  | .hbm, ⟨25, _⟩ => ⟨S4992, .i32⟩
  | .hbm, ⟨26, _⟩ => ⟨S12, .i32⟩
  | .hbm, ⟨27, _⟩ => ⟨S1x12, .i32⟩
  | .hbm, ⟨28, _⟩ => ⟨S_, .i32⟩
  | .hbm, ⟨29, _⟩ => ⟨S1x12, .i32⟩
  | .hbm, ⟨30, _⟩ => ⟨S1x12, .i32⟩
  | .hbm, ⟨31, _⟩ => ⟨S4992x12, .i32⟩
  | .hbm, ⟨32, _⟩ => ⟨S4992x12, .i32⟩
  | .hbm, ⟨33, _⟩ => ⟨S6144x3072, .f32⟩
  | .hbm, ⟨34, _⟩ => ⟨S_, .i32⟩
  | .hbm, ⟨35, _⟩ => ⟨S4992x12, .i32⟩
  | .hbm, ⟨36, _⟩ => ⟨S4992x12, .i1⟩
  | .hbm, ⟨37, _⟩ => ⟨S_, .i32⟩
  | .hbm, ⟨38, _⟩ => ⟨S4992x12, .i32⟩
  | .hbm, ⟨39, _⟩ => ⟨S4992x12, .i32⟩
  | .hbm, ⟨40, _⟩ => ⟨S4992x12, .i32⟩
  | .hbm, ⟨41, _⟩ => ⟨S4992x12x1, .i32⟩
  | .hbm, ⟨42, _⟩ => ⟨S6144x4992x12, .f32⟩
  | .hbm, ⟨43, _⟩ => ⟨S_, .f32⟩
  | .hbm, ⟨44, _⟩ => ⟨S6144x4992, .f32⟩
  | .hbm, ⟨45, _⟩ => ⟨S_, .i32⟩
  | .hbm, ⟨46, _⟩ => ⟨S4992, .i32⟩
  | .hbm, ⟨47, _⟩ => ⟨S4992, .i1⟩
  | .hbm, ⟨48, _⟩ => ⟨S_, .i32⟩
  | .hbm, ⟨49, _⟩ => ⟨S4992, .i32⟩
  | .hbm, ⟨50, _⟩ => ⟨S4992, .i32⟩
  | .hbm, ⟨51, _⟩ => ⟨S4992, .i32⟩
  | .hbm, ⟨52, _⟩ => ⟨S4992x1, .i32⟩
  | .hbm, ⟨53, _⟩ => ⟨S4992, .f32⟩
  | .hbm, ⟨54, _⟩ => ⟨S6144x1, .f32⟩
  | .hbm, ⟨55, _⟩ => ⟨S_, .f32⟩
  | .hbm, ⟨56, _⟩ => ⟨S6144x4992, .f32⟩
  | .hbm, ⟨57, _⟩ => ⟨S6144x4992, .f32⟩
  | .hbm, ⟨58, _⟩ => ⟨S6144x4992, .f32⟩
  | .hbm, ⟨59, _⟩ => ⟨S6144x4992, .f32⟩
  | .hbm, ⟨60, _⟩ => ⟨S1x4992, .f32⟩
  | .hbm, ⟨61, _⟩ => ⟨S6144x4992, .f32⟩
  | .hbm, ⟨62, _⟩ => ⟨S6144x4992, .f32⟩
  | _, _ => ⟨S6144x200, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c_1 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c_2 : Ref sig .tc := ⟨.hbm, 34, rfl⟩
abbrev main_v26 : Ref sig .tc := ⟨.hbm, 35, rfl⟩
abbrev main_v27 : Ref sig .tc := ⟨.hbm, 36, rfl⟩
abbrev main_c_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_c_5 : Ref sig .tc := ⟨.hbm, 45, rfl⟩
abbrev main_v34 : Ref sig .tc := ⟨.hbm, 46, rfl⟩
abbrev main_v35 : Ref sig .tc := ⟨.hbm, 47, rfl⟩
abbrev main_c_6 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩

abbrev nD : Nat := 1
abbrev τ : Topo := Topo.v7x

variable {F : FTy → Type} [FloatOps F]
-- ==== Proof.KernelOffsets.lean ====
/- The offset at which a grid point of the kernel reads the query block of three points before, as a number over the
   point's coordinate. -/
module

public import proofs.«01_k».proof.Proof.Gen.Kernel.Frame

@[expose] public section

noncomputable section

namespace Cert.Kernel.Own

open Idealize.ShloMosaic
open Cert.Kernel.Gen

/-- The query block read for the distances is block `i - 3`, in the 32-bit arithmetic of the program. -/
theorem off12_eq : ∀ i : grid0.Coords, k0_off12 i = ![((i 0).val + 4294967293) % 4294967296, 0, 0] := by decide +kernel

instance closedOff_off12 (i : grid0.Coords) : ClosedOff (k0_off12 i) :=
  ⟨![((i 0).val + 4294967293) % 4294967296, 0, 0], off12_eq i⟩

end Cert.Kernel.Own

end
-- ==== Proof.KernelBase.lean ====
/- What the runs of one grid point share: the conditions of the body's branches over the grid, the staging and scratch
   buffers, and the contents of the scratch before and after a point. -/
module

public import proofs.«01_k».proof.Proof.KernelOffsets
public import proofs.«01_k».proof.Proof.Gen.Kernel.Skeleton
public import proofs.«01_k».proof.Proof.Gen.Kernel.Loops
public import proofs.«01_k».proof.Proof.Gen.Kernel.Points
public import proofs.«01_k».proof.Proof.Gen.Kernel.Frame

@[expose] public section

-- membership in a rectangle of production extents (`View.cover_of_tiled`): the elaborator's structural look
-- recurses once per coordinate of the long axes
set_option maxRecDepth 16384

noncomputable section

namespace Cert.Kernel.Own

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 27 = 0 :=
  (fun t => by
    have ht : t.val < 27 := Nat.lt_of_lt_of_eq t.isLt N_0
    have e0 : (grid0.coords t 0).val = t.val / 1 % 27 := Pipeline.Grid.coords_val t 0 (by decide) rfl
    simp only [cond0_0, e0]
    word_cmp
   : ∀ t : Fin grid0.N, cond0_0 (grid0.coords t) ↔ t.val % 27 = 0)

/-- The condition of the body's `scf.if` 1 (`k0_h2`), from the grid coordinates (the skeleton's scalar
    chain substituted). -/
abbrev cond0_1 (i : grid0.Coords) : Prop := k0_cond2 i = 1#1
/-- It holds at the points before point 24 — decided over the grid. -/
theorem hcond0_1 : ∀ t : Fin cfg0.N, cond0_1 (grid0.coords t) ↔ t.val < 24 :=
  (by decide +kernel : ∀ t : Fin grid0.N, cond0_1 (grid0.coords t) ↔ t.val < 24)

/-- The condition of the body's `scf.if` 2 (`k0_h3`), from the grid coordinates (the skeleton's scalar
    chain substituted). -/
abbrev cond0_2 (i : grid0.Coords) : Prop := k0_cond3 i = 1#1
/-- It holds at the points before point 3 — decided over the grid. -/
theorem hcond0_2 : ∀ t : Fin cfg0.N, cond0_2 (grid0.coords t) ↔ t.val < 3 :=
  (by decide +kernel : ∀ t : Fin grid0.N, cond0_2 (grid0.coords t) ↔ t.val < 3)

/-- The condition of the body's `scf.if` 3 (`k0_h4`), from the grid coordinates (the skeleton's scalar
    chain substituted). -/
abbrev cond0_3 (i : grid0.Coords) : Prop := k0_cond4 i = 1#1
/-- It holds at the points from point 3 on — decided over the grid. -/
theorem hcond0_3 : ∀ t : Fin cfg0.N, cond0_3 (grid0.coords t) ↔ 3 ≤ t.val :=
  (by decide +kernel : ∀ t : Fin grid0.N, cond0_3 (grid0.coords t) ↔ 3 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S200x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S12x200x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x4992 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x4992 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S12x256x256 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S24x256x768 .bf16 := Memref.whole cc0_scratch0
abbrev scM0_1 : Memref sig .tc .vmem S12x256x256 .bf16 := Memref.whole cc0_scratch1
abbrev scM0_2 : Memref sig .tc .vmem S768x5120 .bf16 := Memref.whole cc0_scratch2
abbrev scM0_3 : Memref sig .tc .vmem S8x4992 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Own

end
-- ==== Proof.KernelRunA.lean ====
/- One grid point of the kernel in case A: its triple, the outputs' contents left unnamed. -/
module

public import proofs.«01_k».proof.Proof.KernelBase

@[expose] public section

-- membership in a rectangle of production extents (`View.cover_of_tiled`): the elaborator's structural look
-- recurses once per coordinate of the long axes
set_option maxRecDepth 16384

noncomputable section

namespace Cert.Kernel.Own

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE A (`scf.if` 0 taken, `scf.if` 1 taken, `scf.if` 2 taken, `scf.if` 3 not taken: points 0): on whole staging memrefs — the inputs' at their contents,
    the FORGOTTEN outputs' (4, 5) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .vmem S200x256 .bf16) (harg1 : arg1.IsWhole) (arg2 : Memref sig .tc .vmem S12x200x256 .bf16) (harg2 : arg2.IsWhole) (arg3 : Memref sig .tc .vmem S4x4992 .i32) (harg3 : arg3.IsWhole) (arg4 : Memref sig .tc .vmem S1x256 .f32) (harg4 : arg4.IsWhole) (arg5 : Memref sig .tc .vmem S256x4992 .f32) (harg5 : arg5.IsWhole) (arg6 : Memref sig .tc .vmem S12x256x256 .f32) (harg6 : arg6.IsWhole) (arg7 : Memref sig .tc .vmem S24x256x768 .bf16) (harg7 : arg7.IsWhole) (arg8 : Memref sig .tc .vmem S12x256x256 .bf16) (harg8 : arg8.IsWhole) (arg9 : Memref sig .tc .vmem S768x5120 .bf16) (harg9 : arg9.IsWhole) (arg10 : Memref sig .tc .vmem S8x4992 .f32) (harg10 : arg10.IsWhole) (hc0 : cond0_0 i) (hc1 : cond0_1 i) (hc2 : cond0_2 i) (hc3 : ¬cond0_3 i)
    (x0 : Vec F S200x256 .bf16) (x1 : Vec F S12x200x256 .bf16) (x2 : Vec F S4x4992 .i32) (x3 : Vec F S1x256 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_aq_adc i arg1 harg1 arg2 harg2 arg3 harg3 arg4 harg4 arg5 harg5 arg6 harg6 arg7 harg7 arg8 harg8 arg9 harg9 arg10 harg10) K := by
    intro E K
    simp only [cc0_aq_adc_eq_skeleton]; unfold cc0_aq_adc_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [H5]
    · iexists _, _; isplitr; swap; · iexact H5
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Own

end
-- ==== Proof.KernelRunB.lean ====
/- One grid point of the kernel in case B: its triple, the outputs' contents left unnamed. -/
module

public import proofs.«01_k».proof.Proof.KernelRunA

@[expose] public section

-- membership in a rectangle of production extents (`View.cover_of_tiled`): the elaborator's structural look
-- recurses once per coordinate of the long axes
set_option maxRecDepth 16384

noncomputable section

namespace Cert.Kernel.Own

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE B (`scf.if` 0 not taken, `scf.if` 1 taken, `scf.if` 2 taken, `scf.if` 3 not taken: points 1, 2): on whole staging memrefs — the inputs' at their contents,
    the FORGOTTEN outputs' (4, 5) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .vmem S200x256 .bf16) (harg1 : arg1.IsWhole) (arg2 : Memref sig .tc .vmem S12x200x256 .bf16) (harg2 : arg2.IsWhole) (arg3 : Memref sig .tc .vmem S4x4992 .i32) (harg3 : arg3.IsWhole) (arg4 : Memref sig .tc .vmem S1x256 .f32) (harg4 : arg4.IsWhole) (arg5 : Memref sig .tc .vmem S256x4992 .f32) (harg5 : arg5.IsWhole) (arg6 : Memref sig .tc .vmem S12x256x256 .f32) (harg6 : arg6.IsWhole) (arg7 : Memref sig .tc .vmem S24x256x768 .bf16) (harg7 : arg7.IsWhole) (arg8 : Memref sig .tc .vmem S12x256x256 .bf16) (harg8 : arg8.IsWhole) (arg9 : Memref sig .tc .vmem S768x5120 .bf16) (harg9 : arg9.IsWhole) (arg10 : Memref sig .tc .vmem S8x4992 .f32) (harg10 : arg10.IsWhole) (hc0 : ¬cond0_0 i) (hc1 : cond0_1 i) (hc2 : cond0_2 i) (hc3 : ¬cond0_3 i)
    (x0 : Vec F S200x256 .bf16) (x1 : Vec F S12x200x256 .bf16) (x2 : Vec F S4x4992 .i32) (x3 : Vec F S1x256 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_aq_adc i arg1 harg1 arg2 harg2 arg3 harg3 arg4 harg4 arg5 harg5 arg6 harg6 arg7 harg7 arg8 harg8 arg9 harg9 arg10 harg10) K := by
    intro E K
    simp only [cc0_aq_adc_eq_skeleton]; unfold cc0_aq_adc_skel
    simp only [k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [H5]
    · iexists _, _; isplitr; swap; · iexact H5
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Own

end
-- ==== Proof.KernelRunC.lean ====
/- One grid point of the kernel in case C: its triple, the outputs' contents left unnamed. -/
module

public import proofs.«01_k».proof.Proof.KernelRunB

@[expose] public section

-- membership in a rectangle of production extents (`View.cover_of_tiled`): the elaborator's structural look
-- recurses once per coordinate of the long axes
set_option maxRecDepth 16384

noncomputable section

namespace Cert.Kernel.Own

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE C (`scf.if` 0 not taken, `scf.if` 1 taken, `scf.if` 2 not taken, `scf.if` 3 taken: points 3, 4, … 23: 21 of 27): on whole staging memrefs — the inputs' at their contents,
    the FORGOTTEN outputs' (4, 5) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_C (c : Dev nD) (i : grid0.Coords) (arg1 : Memref sig .tc .vmem S200x256 .bf16) (harg1 : arg1.IsWhole) (arg2 : Memref sig .tc .vmem S12x200x256 .bf16) (harg2 : arg2.IsWhole) (arg3 : Memref sig .tc .vmem S4x4992 .i32) (harg3 : arg3.IsWhole) (arg4 : Memref sig .tc .vmem S1x256 .f32) (harg4 : arg4.IsWhole) (arg5 : Memref sig .tc .vmem S256x4992 .f32) (harg5 : arg5.IsWhole) (arg6 : Memref sig .tc .vmem S12x256x256 .f32) (harg6 : arg6.IsWhole) (arg7 : Memref sig .tc .vmem S24x256x768 .bf16) (harg7 : arg7.IsWhole) (arg8 : Memref sig .tc .vmem S12x256x256 .bf16) (harg8 : arg8.IsWhole) (arg9 : Memref sig .tc .vmem S768x5120 .bf16) (harg9 : arg9.IsWhole) (arg10 : Memref sig .tc .vmem S8x4992 .f32) (harg10 : arg10.IsWhole) (hc0 : ¬cond0_0 i) (hc1 : cond0_1 i) (hc2 : ¬cond0_2 i) (hc3 : cond0_3 i)
    (x0 : Vec F S200x256 .bf16) (x1 : Vec F S12x200x256 .bf16) (x2 : Vec F S4x4992 .i32) (x3 : Vec F S1x256 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_aq_adc i arg1 harg1 arg2 harg2 arg3 harg3 arg4 harg4 arg5 harg5 arg6 harg6 arg7 harg7 arg8 harg8 arg9 harg9 arg10 harg10) K := by
    intro E K
    simp only [cc0_aq_adc_eq_skeleton]; unfold cc0_aq_adc_skel
    simp only [k0_part3_eq_skeleton, k0_part4_eq_skeleton, k0_part5_eq_skeleton, k0_part28_eq_skeleton, k0_part29_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [H5]
    · iexists _, _; isplitr; swap; · iexact H5
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Own

end
-- ==== Proof.KernelRunD.lean ====
/- One grid point of the kernel in case D: its triple, the outputs' contents left unnamed. -/
module

public import proofs.«01_k».proof.Proof.KernelRunC

@[expose] public section

-- membership in a rectangle of production extents (`View.cover_of_tiled`): the elaborator's structural look
-- recurses once per coordinate of the long axes
set_option maxRecDepth 16384

noncomputable section

namespace Cert.Kernel.Own

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE D (`scf.if` 0 not taken, `scf.if` 1 not taken, `scf.if` 2 not taken, `scf.if` 3 taken: points 24, 25, 26): on whole staging memrefs — the inputs' at their contents,
    the FORGOTTEN outputs' (4, 5) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_D (c : Dev nD) (i : grid0.Coords) (arg1 : Memref sig .tc .vmem S200x256 .bf16) (harg1 : arg1.IsWhole) (arg2 : Memref sig .tc .vmem S12x200x256 .bf16) (harg2 : arg2.IsWhole) (arg3 : Memref sig .tc .vmem S4x4992 .i32) (harg3 : arg3.IsWhole) (arg4 : Memref sig .tc .vmem S1x256 .f32) (harg4 : arg4.IsWhole) (arg5 : Memref sig .tc .vmem S256x4992 .f32) (harg5 : arg5.IsWhole) (arg6 : Memref sig .tc .vmem S12x256x256 .f32) (harg6 : arg6.IsWhole) (arg7 : Memref sig .tc .vmem S24x256x768 .bf16) (harg7 : arg7.IsWhole) (arg8 : Memref sig .tc .vmem S12x256x256 .bf16) (harg8 : arg8.IsWhole) (arg9 : Memref sig .tc .vmem S768x5120 .bf16) (harg9 : arg9.IsWhole) (arg10 : Memref sig .tc .vmem S8x4992 .f32) (harg10 : arg10.IsWhole) (hc0 : ¬cond0_0 i) (hc1 : ¬cond0_1 i) (hc2 : ¬cond0_2 i) (hc3 : cond0_3 i)
    (x0 : Vec F S200x256 .bf16) (x1 : Vec F S12x200x256 .bf16) (x2 : Vec F S4x4992 .i32) (x3 : Vec F S1x256 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_aq_adc i arg1 harg1 arg2 harg2 arg3 harg3 arg4 harg4 arg5 harg5 arg6 harg6 arg7 harg7 arg8 harg8 arg9 harg9 arg10 harg10) K := by
    intro E K
    simp only [cc0_aq_adc_eq_skeleton]; unfold cc0_aq_adc_skel
    simp only [k0_part28_eq_skeleton, k0_part29_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [H5]
    · iexists _, _; isplitr; swap; · iexact H5
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Own

end
-- ==== Proof.KernelFrame.lean ====
/- The frame of the kernel over bits: every run ends, with the argument arrays unchanged and every semaphore
   counter at zero. What the outputs hold is left unnamed here. -/
module

public import proofs.«01_k».proof.Proof.KernelRunD
public import Idealize.ShloMosaic.Lib.Claim

@[expose] public section

-- membership in a rectangle of production extents (`View.cover_of_tiled`): the elaborator's structural look
-- recurses once per coordinate of the long axes
set_option maxRecDepth 16384

noncomputable section

namespace Cert.Kernel.Own

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-- The buffers the lines after the region WRITE, as references: results computed from contents the run does not name
    (an operand the body wrote by its own DMA, or a forgotten output), so nothing is stated of them either. -/
def T0 : Finset (Ref sig .tc) := {main_v6}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- What the run says of the memory gives the frame claim's statement: the argument arrays are as launched. -/
theorem frame_of_forgotten (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c)⟩) h

/-! ## The pipeline's proof data -/

/-- The output windows this certificate FORGETS (4, 5): nothing reads what the kernel leaves in them, so nothing
    of it is named (Lib/Pipeline/Dat.lean `Dat.toRForget`). -/
def forgets0 : Fin 6 → Bool := fun w => w.val == 4 || w.val == 5

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (∃ d, owns (c : Thread nD τ) (ms0_4 t) fullShare d)
    ∗ (∃ d, owns (c : Thread nD τ) (ms0_5 t) fullShare d))

set_option maxHeartbeats 3200000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 27 := lt_of_lt_of_eq t.isLt (show cfg0.N = 27 from N_0)
  by_cases h0 : t.val % 27 = 0
  · by_cases h1 : t.val < 24
    · by_cases h2 : t.val < 3
      · by_cases h3 : 3 ≤ t.val
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
          iapply ((kernelRun0_A c (grid0.coords t) _ _ _ _ _ _ _ _ _ _ _ _ _ _ _ _ _ _ _ _ ((hcond0_0 t).mpr h0) ((hcond0_1 t).mpr h1) ((hcond0_2 t).mpr h2) (fun h => h3 ((hcond0_3 t).mp h)) (iblk m c 0 t) (iblk m c 1 t) (iblk m c 2 t) (iblk m c 3 t)) Set.univ _)
          isplitl [H0]; · iexact H0
          isplitl [H1]; · iexact H1
          isplitl [H2]; · iexact H2
          isplitl [H3]; · iexact H3
          isplitl [H4]; · iexists _; iexact H4
          isplitl [H5]; · iexists _; iexact H5
          isplitl [HS0]; · iexact HS0
          isplitl [HS1]; · iexact HS1
          isplitl [HS2]; · iexact HS2
          isplitl [HS3]; · iexact HS3
          iintro ⟨H0, H1, H2, H3, H4, H5, HS0, HS1, HS2, HS3⟩
          isplitl [HS0 HS1 HS2 HS3 Hg]
          · isplitl [HS0 HS1 HS2 HS3]
            · isplitl [HS0]
              · iexact HS0
              isplitl [HS1]
              · iexact HS1
              isplitl [HS2]
              · iexact HS2
              iexact HS3
            iexact Hg
          isplitl [Ho]; · iexact Ho
          isplitl [H0]; · iexact H0
          isplitl [H1]; · iexact H1
          isplitl [H2]; · iexact H2
          isplitl [H3]; · iexact H3
          isplitl [H4]; · iexact H4
          iexact H5
      · exfalso; omega
    · exfalso; omega
  · by_cases h1 : t.val < 24
    · by_cases h2 : t.val < 3
      · by_cases h3 : 3 ≤ t.val
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
          iapply ((kernelRun0_B c (grid0.coords t) _ _ _ _ _ _ _ _ _ _ _ _ _ _ _ _ _ _ _ _ (fun h => h0 ((hcond0_0 t).mp h)) ((hcond0_1 t).mpr h1) ((hcond0_2 t).mpr h2) (fun h => h3 ((hcond0_3 t).mp h)) (iblk m c 0 t) (iblk m c 1 t) (iblk m c 2 t) (iblk m c 3 t)) Set.univ _)
          isplitl [H0]; · iexact H0
          isplitl [H1]; · iexact H1
          isplitl [H2]; · iexact H2
          isplitl [H3]; · iexact H3
          isplitl [H4]; · iexists _; iexact H4
          isplitl [H5]; · iexists _; iexact H5
          isplitl [HS0]; · iexact HS0
          isplitl [HS1]; · iexact HS1
          isplitl [HS2]; · iexact HS2
          isplitl [HS3]; · iexact HS3
          iintro ⟨H0, H1, H2, H3, H4, H5, HS0, HS1, HS2, HS3⟩
          isplitl [HS0 HS1 HS2 HS3 Hg]
          · isplitl [HS0 HS1 HS2 HS3]
            · isplitl [HS0]
              · iexact HS0
              isplitl [HS1]
              · iexact HS1
              isplitl [HS2]
              · iexact HS2
              iexact HS3
            iexact Hg
          isplitl [Ho]; · iexact Ho
          isplitl [H0]; · iexact H0
          isplitl [H1]; · iexact H1
          isplitl [H2]; · iexact H2
          isplitl [H3]; · iexact H3
          isplitl [H4]; · iexact H4
          iexact H5
      · by_cases h3 : 3 ≤ t.val
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
          iapply ((kernelRun0_C c (grid0.coords t) _ _ _ _ _ _ _ _ _ _ _ _ _ _ _ _ _ _ _ _ (fun h => h0 ((hcond0_0 t).mp h)) ((hcond0_1 t).mpr h1) (fun h => h2 ((hcond0_2 t).mp h)) ((hcond0_3 t).mpr h3) (iblk m c 0 t) (iblk m c 1 t) (iblk m c 2 t) (iblk m c 3 t)) Set.univ _)
          isplitl [H0]; · iexact H0
          isplitl [H1]; · iexact H1
          isplitl [H2]; · iexact H2
          isplitl [H3]; · iexact H3
          isplitl [H4]; · iexists _; iexact H4
          isplitl [H5]; · iexists _; iexact H5
          isplitl [HS0]; · iexact HS0
          isplitl [HS1]; · iexact HS1
          isplitl [HS2]; · iexact HS2
          isplitl [HS3]; · iexact HS3
          iintro ⟨H0, H1, H2, H3, H4, H5, HS0, HS1, HS2, HS3⟩
          isplitl [HS0 HS1 HS2 HS3 Hg]
          · isplitl [HS0 HS1 HS2 HS3]
            · isplitl [HS0]
              · iexact HS0
              isplitl [HS1]
              · iexact HS1
              isplitl [HS2]
              · iexact HS2
              iexact HS3
            iexact Hg
          isplitl [Ho]; · iexact Ho
          isplitl [H0]; · iexact H0
          isplitl [H1]; · iexact H1
          isplitl [H2]; · iexact H2
          isplitl [H3]; · iexact H3
          isplitl [H4]; · iexact H4
          iexact H5
        · exfalso; omega
    · by_cases h2 : t.val < 3
      · exfalso; omega
      · by_cases h3 : 3 ≤ t.val
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
          iapply ((kernelRun0_D c (grid0.coords t) _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t)) Set.univ _)
          isplitl [H0]; · iexact H0
          isplitl [H1]; · iexact H1
          isplitl [H2]; · iexact H2
          isplitl [H3]; · iexact H3
          isplitl [H4]; · iexists _; iexact H4
          isplitl [H5]; · iexists _; iexact H5
          isplitl [HS0]; · iexact HS0
          isplitl [HS1]; · iexact HS1
          isplitl [HS2]; · iexact HS2
          isplitl [HS3]; · iexact HS3
          iintro ⟨H0, H1, H2, H3, H4, H5, HS0, HS1, HS2, HS3⟩
          isplitl [HS0 HS1 HS2 HS3 Hg]
          · isplitl [HS0 HS1 HS2 HS3]
            · isplitl [HS0]
              · iexact HS0
              isplitl [HS1]
              · iexact HS1
              isplitl [HS2]
              · iexact HS2
              iexact HS3
            iexact Hg
          isplitl [Ho]; · iexact Ho
          isplitl [H0]; · iexact H0
          isplitl [H1]; · iexact H1
          isplitl [H2]; · iexact H2
          isplitl [H3]; · iexact H3
          isplitl [H4]; · iexact H4
          iexact H5
        · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_around_T_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 4, 5) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of_forgotten m ρ (fun c => (dats m 0 c).toRForget forgets0) (A_eq m) (run_main m ρ)

/-- THE FRAME: `Cert.quiescent_Kernel`'s statement (Defs.lean) at any `F` . -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Own

end
-- ==== Proof.KernelIdealOffsets.lean ====
/- The offset at which a grid point of the kernel reads the query block of three points before, as a number over the
   point's coordinate. -/
module

public import proofs.«01_k».proof.Proof.Gen.KernelIdeal.Frame

@[expose] public section

noncomputable section

namespace Cert.KernelIdeal.Own

open Idealize.ShloMosaic
open Cert.KernelIdeal.Gen

/-- The query block read for the distances is block `i - 3`, in the 32-bit arithmetic of the program. -/
theorem off12_eq : ∀ i : grid0.Coords, k0_off12 i = ![((i 0).val + 4294967293) % 4294967296, 0, 0] := by decide +kernel

instance closedOff_off12 (i : grid0.Coords) : ClosedOff (k0_off12 i) :=
  ⟨![((i 0).val + 4294967293) % 4294967296, 0, 0], off12_eq i⟩

end Cert.KernelIdeal.Own

end
-- ==== Proof.KernelIdealBase.lean ====
/- What the runs of one grid point share: the conditions of the body's branches over the grid, the staging and scratch
   buffers, and the contents of the scratch before and after a point. -/
module

public import proofs.«01_k».proof.Proof.KernelIdealOffsets
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame

@[expose] public section

-- membership in a rectangle of production extents (`View.cover_of_tiled`): the elaborator's structural look
-- recurses once per coordinate of the long axes
set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 27 = 0 :=
  (fun t => by
    have ht : t.val < 27 := Nat.lt_of_lt_of_eq t.isLt N_0
    have e0 : (grid0.coords t 0).val = t.val / 1 % 27 := Pipeline.Grid.coords_val t 0 (by decide) rfl
    simp only [cond0_0, e0]
    word_cmp
   : ∀ t : Fin grid0.N, cond0_0 (grid0.coords t) ↔ t.val % 27 = 0)

/-- The condition of the body's `scf.if` 1 (`k0_h2`), from the grid coordinates (the skeleton's scalar
    chain substituted). -/
abbrev cond0_1 (i : grid0.Coords) : Prop := k0_cond2 i = 1#1
/-- It holds at the points before point 24 — decided over the grid. -/
theorem hcond0_1 : ∀ t : Fin cfg0.N, cond0_1 (grid0.coords t) ↔ t.val < 24 :=
  (by decide +kernel : ∀ t : Fin grid0.N, cond0_1 (grid0.coords t) ↔ t.val < 24)

/-- The condition of the body's `scf.if` 2 (`k0_h3`), from the grid coordinates (the skeleton's scalar
    chain substituted). -/
abbrev cond0_2 (i : grid0.Coords) : Prop := k0_cond3 i = 1#1
/-- It holds at the points before point 3 — decided over the grid. -/
theorem hcond0_2 : ∀ t : Fin cfg0.N, cond0_2 (grid0.coords t) ↔ t.val < 3 :=
  (by decide +kernel : ∀ t : Fin grid0.N, cond0_2 (grid0.coords t) ↔ t.val < 3)

/-- The condition of the body's `scf.if` 3 (`k0_h4`), from the grid coordinates (the skeleton's scalar
    chain substituted). -/
abbrev cond0_3 (i : grid0.Coords) : Prop := k0_cond4 i = 1#1
/-- It holds at the points from point 3 on — decided over the grid. -/
theorem hcond0_3 : ∀ t : Fin cfg0.N, cond0_3 (grid0.coords t) ↔ 3 ≤ t.val :=
  (by decide +kernel : ∀ t : Fin grid0.N, cond0_3 (grid0.coords t) ↔ 3 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S200x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S12x200x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x4992 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x4992 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S12x256x256 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S24x256x768 .bf16 := Memref.whole cc0_scratch0
abbrev scM0_1 : Memref sig .tc .vmem S12x256x256 .bf16 := Memref.whole cc0_scratch1
abbrev scM0_2 : Memref sig .tc .vmem S768x5120 .bf16 := Memref.whole cc0_scratch2
abbrev scM0_3 : Memref sig .tc .vmem S8x4992 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Own

end
-- ==== Proof.KernelIdealRunA.lean ====
/- One grid point of the kernel in case A: its triple, the outputs' contents left unnamed. -/
module

public import proofs.«01_k».proof.Proof.KernelIdealBase

@[expose] public section

-- membership in a rectangle of production extents (`View.cover_of_tiled`): the elaborator's structural look
-- recurses once per coordinate of the long axes
set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE A (`scf.if` 0 taken, `scf.if` 1 taken, `scf.if` 2 taken, `scf.if` 3 not taken: points 0): on whole staging memrefs — the inputs' at their contents,
    the FORGOTTEN outputs' (4, 5) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .vmem S200x256 .bf16) (harg1 : arg1.IsWhole) (arg2 : Memref sig .tc .vmem S12x200x256 .bf16) (harg2 : arg2.IsWhole) (arg3 : Memref sig .tc .vmem S4x4992 .i32) (harg3 : arg3.IsWhole) (arg4 : Memref sig .tc .vmem S1x256 .f32) (harg4 : arg4.IsWhole) (arg5 : Memref sig .tc .vmem S256x4992 .f32) (harg5 : arg5.IsWhole) (arg6 : Memref sig .tc .vmem S12x256x256 .f32) (harg6 : arg6.IsWhole) (arg7 : Memref sig .tc .vmem S24x256x768 .bf16) (harg7 : arg7.IsWhole) (arg8 : Memref sig .tc .vmem S12x256x256 .bf16) (harg8 : arg8.IsWhole) (arg9 : Memref sig .tc .vmem S768x5120 .bf16) (harg9 : arg9.IsWhole) (arg10 : Memref sig .tc .vmem S8x4992 .f32) (harg10 : arg10.IsWhole) (hc0 : cond0_0 i) (hc1 : cond0_1 i) (hc2 : cond0_2 i) (hc3 : ¬cond0_3 i)
    (x0 : Vec F S200x256 .bf16) (x1 : Vec F S12x200x256 .bf16) (x2 : Vec F S4x4992 .i32) (x3 : Vec F S1x256 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_aq_adc i arg1 harg1 arg2 harg2 arg3 harg3 arg4 harg4 arg5 harg5 arg6 harg6 arg7 harg7 arg8 harg8 arg9 harg9 arg10 harg10) K := by
    intro E K
    simp only [cc0_aq_adc_eq_skeleton]; unfold cc0_aq_adc_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [H5]
    · iexists _, _; isplitr; swap; · iexact H5
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Own

end
-- ==== Proof.KernelIdealRunB.lean ====
/- One grid point of the kernel in case B: its triple, the outputs' contents left unnamed. -/
module

public import proofs.«01_k».proof.Proof.KernelIdealRunA

@[expose] public section

-- membership in a rectangle of production extents (`View.cover_of_tiled`): the elaborator's structural look
-- recurses once per coordinate of the long axes
set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE B (`scf.if` 0 not taken, `scf.if` 1 taken, `scf.if` 2 taken, `scf.if` 3 not taken: points 1, 2): on whole staging memrefs — the inputs' at their contents,
    the FORGOTTEN outputs' (4, 5) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .vmem S200x256 .bf16) (harg1 : arg1.IsWhole) (arg2 : Memref sig .tc .vmem S12x200x256 .bf16) (harg2 : arg2.IsWhole) (arg3 : Memref sig .tc .vmem S4x4992 .i32) (harg3 : arg3.IsWhole) (arg4 : Memref sig .tc .vmem S1x256 .f32) (harg4 : arg4.IsWhole) (arg5 : Memref sig .tc .vmem S256x4992 .f32) (harg5 : arg5.IsWhole) (arg6 : Memref sig .tc .vmem S12x256x256 .f32) (harg6 : arg6.IsWhole) (arg7 : Memref sig .tc .vmem S24x256x768 .bf16) (harg7 : arg7.IsWhole) (arg8 : Memref sig .tc .vmem S12x256x256 .bf16) (harg8 : arg8.IsWhole) (arg9 : Memref sig .tc .vmem S768x5120 .bf16) (harg9 : arg9.IsWhole) (arg10 : Memref sig .tc .vmem S8x4992 .f32) (harg10 : arg10.IsWhole) (hc0 : ¬cond0_0 i) (hc1 : cond0_1 i) (hc2 : cond0_2 i) (hc3 : ¬cond0_3 i)
    (x0 : Vec F S200x256 .bf16) (x1 : Vec F S12x200x256 .bf16) (x2 : Vec F S4x4992 .i32) (x3 : Vec F S1x256 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_aq_adc i arg1 harg1 arg2 harg2 arg3 harg3 arg4 harg4 arg5 harg5 arg6 harg6 arg7 harg7 arg8 harg8 arg9 harg9 arg10 harg10) K := by
    intro E K
    simp only [cc0_aq_adc_eq_skeleton]; unfold cc0_aq_adc_skel
    simp only [k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [H5]
    · iexists _, _; isplitr; swap; · iexact H5
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Own

end
-- ==== Proof.KernelIdealRunC.lean ====
/- One grid point of the kernel in case C: its triple, the outputs' contents left unnamed. -/
module

public import proofs.«01_k».proof.Proof.KernelIdealRunB

@[expose] public section

-- membership in a rectangle of production extents (`View.cover_of_tiled`): the elaborator's structural look
-- recurses once per coordinate of the long axes
set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE C (`scf.if` 0 not taken, `scf.if` 1 taken, `scf.if` 2 not taken, `scf.if` 3 taken: points 3, 4, … 23: 21 of 27): on whole staging memrefs — the inputs' at their contents,
    the FORGOTTEN outputs' (4, 5) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_C (c : Dev nD) (i : grid0.Coords) (arg1 : Memref sig .tc .vmem S200x256 .bf16) (harg1 : arg1.IsWhole) (arg2 : Memref sig .tc .vmem S12x200x256 .bf16) (harg2 : arg2.IsWhole) (arg3 : Memref sig .tc .vmem S4x4992 .i32) (harg3 : arg3.IsWhole) (arg4 : Memref sig .tc .vmem S1x256 .f32) (harg4 : arg4.IsWhole) (arg5 : Memref sig .tc .vmem S256x4992 .f32) (harg5 : arg5.IsWhole) (arg6 : Memref sig .tc .vmem S12x256x256 .f32) (harg6 : arg6.IsWhole) (arg7 : Memref sig .tc .vmem S24x256x768 .bf16) (harg7 : arg7.IsWhole) (arg8 : Memref sig .tc .vmem S12x256x256 .bf16) (harg8 : arg8.IsWhole) (arg9 : Memref sig .tc .vmem S768x5120 .bf16) (harg9 : arg9.IsWhole) (arg10 : Memref sig .tc .vmem S8x4992 .f32) (harg10 : arg10.IsWhole) (hc0 : ¬cond0_0 i) (hc1 : cond0_1 i) (hc2 : ¬cond0_2 i) (hc3 : cond0_3 i)
    (x0 : Vec F S200x256 .bf16) (x1 : Vec F S12x200x256 .bf16) (x2 : Vec F S4x4992 .i32) (x3 : Vec F S1x256 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_aq_adc i arg1 harg1 arg2 harg2 arg3 harg3 arg4 harg4 arg5 harg5 arg6 harg6 arg7 harg7 arg8 harg8 arg9 harg9 arg10 harg10) K := by
    intro E K
    simp only [cc0_aq_adc_eq_skeleton]; unfold cc0_aq_adc_skel
    simp only [k0_part3_eq_skeleton, k0_part4_eq_skeleton, k0_part5_eq_skeleton, k0_part27_eq_skeleton, k0_part28_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [H5]
    · iexists _, _; isplitr; swap; · iexact H5
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Own

end
-- ==== Proof.KernelIdealRunD.lean ====
/- One grid point of the kernel in case D: its triple, the outputs' contents left unnamed. -/
module

public import proofs.«01_k».proof.Proof.KernelIdealRunC

@[expose] public section

-- membership in a rectangle of production extents (`View.cover_of_tiled`): the elaborator's structural look
-- recurses once per coordinate of the long axes
set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE D (`scf.if` 0 not taken, `scf.if` 1 not taken, `scf.if` 2 not taken, `scf.if` 3 taken: points 24, 25, 26): on whole staging memrefs — the inputs' at their contents,
    the FORGOTTEN outputs' (4, 5) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_D (c : Dev nD) (i : grid0.Coords) (arg1 : Memref sig .tc .vmem S200x256 .bf16) (harg1 : arg1.IsWhole) (arg2 : Memref sig .tc .vmem S12x200x256 .bf16) (harg2 : arg2.IsWhole) (arg3 : Memref sig .tc .vmem S4x4992 .i32) (harg3 : arg3.IsWhole) (arg4 : Memref sig .tc .vmem S1x256 .f32) (harg4 : arg4.IsWhole) (arg5 : Memref sig .tc .vmem S256x4992 .f32) (harg5 : arg5.IsWhole) (arg6 : Memref sig .tc .vmem S12x256x256 .f32) (harg6 : arg6.IsWhole) (arg7 : Memref sig .tc .vmem S24x256x768 .bf16) (harg7 : arg7.IsWhole) (arg8 : Memref sig .tc .vmem S12x256x256 .bf16) (harg8 : arg8.IsWhole) (arg9 : Memref sig .tc .vmem S768x5120 .bf16) (harg9 : arg9.IsWhole) (arg10 : Memref sig .tc .vmem S8x4992 .f32) (harg10 : arg10.IsWhole) (hc0 : ¬cond0_0 i) (hc1 : ¬cond0_1 i) (hc2 : ¬cond0_2 i) (hc3 : cond0_3 i)
    (x0 : Vec F S200x256 .bf16) (x1 : Vec F S12x200x256 .bf16) (x2 : Vec F S4x4992 .i32) (x3 : Vec F S1x256 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_aq_adc i arg1 harg1 arg2 harg2 arg3 harg3 arg4 harg4 arg5 harg5 arg6 harg6 arg7 harg7 arg8 harg8 arg9 harg9 arg10 harg10) K := by
    intro E K
    simp only [cc0_aq_adc_eq_skeleton]; unfold cc0_aq_adc_skel
    simp only [k0_part27_eq_skeleton, k0_part28_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [H5]
    · iexists _, _; isplitr; swap; · iexact H5
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Own

end
-- ==== Proof.KernelIdealFrame.lean ====
/- The frame of the kernel over the extended reals: every run ends, with the argument arrays unchanged and every semaphore
   counter at zero. What the outputs hold is left unnamed here. -/
module

public import proofs.«01_k».proof.Proof.KernelIdealRunD
public import Idealize.ShloMosaic.Lib.Claim

@[expose] public section

-- membership in a rectangle of production extents (`View.cover_of_tiled`): the elaborator's structural look
-- recurses once per coordinate of the long axes
set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The buffers the lines after the region WRITE, as references: results computed from contents the run does not name
    (an operand the body wrote by its own DMA, or a forgotten output), so nothing is stated of them either. -/
def T0 : Finset (Ref sig .tc) := {main_v6}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- What the run says of the memory gives the frame claim's statement: the argument arrays are as launched. -/
theorem frame_of_forgotten (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c)⟩) h

/-! ## The pipeline's proof data -/

/-- The output windows this certificate FORGETS (4, 5): nothing reads what the kernel leaves in them, so nothing
    of it is named (Lib/Pipeline/Dat.lean `Dat.toRForget`). -/
def forgets0 : Fin 6 → Bool := fun w => w.val == 4 || w.val == 5

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (∃ d, owns (c : Thread nD τ) (ms0_4 t) fullShare d)
    ∗ (∃ d, owns (c : Thread nD τ) (ms0_5 t) fullShare d))

set_option maxHeartbeats 3200000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 27 := lt_of_lt_of_eq t.isLt (show cfg0.N = 27 from N_0)
  by_cases h0 : t.val % 27 = 0
  · by_cases h1 : t.val < 24
    · by_cases h2 : t.val < 3
      · by_cases h3 : 3 ≤ t.val
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
          iapply ((kernelRun0_A c (grid0.coords t) _ _ _ _ _ _ _ _ _ _ _ _ _ _ _ _ _ _ _ _ ((hcond0_0 t).mpr h0) ((hcond0_1 t).mpr h1) ((hcond0_2 t).mpr h2) (fun h => h3 ((hcond0_3 t).mp h)) (iblk m c 0 t) (iblk m c 1 t) (iblk m c 2 t) (iblk m c 3 t)) Set.univ _)
          isplitl [H0]; · iexact H0
          isplitl [H1]; · iexact H1
          isplitl [H2]; · iexact H2
          isplitl [H3]; · iexact H3
          isplitl [H4]; · iexists _; iexact H4
          isplitl [H5]; · iexists _; iexact H5
          isplitl [HS0]; · iexact HS0
          isplitl [HS1]; · iexact HS1
          isplitl [HS2]; · iexact HS2
          isplitl [HS3]; · iexact HS3
          iintro ⟨H0, H1, H2, H3, H4, H5, HS0, HS1, HS2, HS3⟩
          isplitl [HS0 HS1 HS2 HS3 Hg]
          · isplitl [HS0 HS1 HS2 HS3]
            · isplitl [HS0]
              · iexact HS0
              isplitl [HS1]
              · iexact HS1
              isplitl [HS2]
              · iexact HS2
              iexact HS3
            iexact Hg
          isplitl [Ho]; · iexact Ho
          isplitl [H0]; · iexact H0
          isplitl [H1]; · iexact H1
          isplitl [H2]; · iexact H2
          isplitl [H3]; · iexact H3
          isplitl [H4]; · iexact H4
          iexact H5
      · exfalso; omega
    · exfalso; omega
  · by_cases h1 : t.val < 24
    · by_cases h2 : t.val < 3
      · by_cases h3 : 3 ≤ t.val
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
          iapply ((kernelRun0_B c (grid0.coords t) _ _ _ _ _ _ _ _ _ _ _ _ _ _ _ _ _ _ _ _ (fun h => h0 ((hcond0_0 t).mp h)) ((hcond0_1 t).mpr h1) ((hcond0_2 t).mpr h2) (fun h => h3 ((hcond0_3 t).mp h)) (iblk m c 0 t) (iblk m c 1 t) (iblk m c 2 t) (iblk m c 3 t)) Set.univ _)
          isplitl [H0]; · iexact H0
          isplitl [H1]; · iexact H1
          isplitl [H2]; · iexact H2
          isplitl [H3]; · iexact H3
          isplitl [H4]; · iexists _; iexact H4
          isplitl [H5]; · iexists _; iexact H5
          isplitl [HS0]; · iexact HS0
          isplitl [HS1]; · iexact HS1
          isplitl [HS2]; · iexact HS2
          isplitl [HS3]; · iexact HS3
          iintro ⟨H0, H1, H2, H3, H4, H5, HS0, HS1, HS2, HS3⟩
          isplitl [HS0 HS1 HS2 HS3 Hg]
          · isplitl [HS0 HS1 HS2 HS3]
            · isplitl [HS0]
              · iexact HS0
              isplitl [HS1]
              · iexact HS1
              isplitl [HS2]
              · iexact HS2
              iexact HS3
            iexact Hg
          isplitl [Ho]; · iexact Ho
          isplitl [H0]; · iexact H0
          isplitl [H1]; · iexact H1
          isplitl [H2]; · iexact H2
          isplitl [H3]; · iexact H3
          isplitl [H4]; · iexact H4
          iexact H5
      · by_cases h3 : 3 ≤ t.val
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
          iapply ((kernelRun0_C c (grid0.coords t) _ _ _ _ _ _ _ _ _ _ _ _ _ _ _ _ _ _ _ _ (fun h => h0 ((hcond0_0 t).mp h)) ((hcond0_1 t).mpr h1) (fun h => h2 ((hcond0_2 t).mp h)) ((hcond0_3 t).mpr h3) (iblk m c 0 t) (iblk m c 1 t) (iblk m c 2 t) (iblk m c 3 t)) Set.univ _)
          isplitl [H0]; · iexact H0
          isplitl [H1]; · iexact H1
          isplitl [H2]; · iexact H2
          isplitl [H3]; · iexact H3
          isplitl [H4]; · iexists _; iexact H4
          isplitl [H5]; · iexists _; iexact H5
          isplitl [HS0]; · iexact HS0
          isplitl [HS1]; · iexact HS1
          isplitl [HS2]; · iexact HS2
          isplitl [HS3]; · iexact HS3
          iintro ⟨H0, H1, H2, H3, H4, H5, HS0, HS1, HS2, HS3⟩
          isplitl [HS0 HS1 HS2 HS3 Hg]
          · isplitl [HS0 HS1 HS2 HS3]
            · isplitl [HS0]
              · iexact HS0
              isplitl [HS1]
              · iexact HS1
              isplitl [HS2]
              · iexact HS2
              iexact HS3
            iexact Hg
          isplitl [Ho]; · iexact Ho
          isplitl [H0]; · iexact H0
          isplitl [H1]; · iexact H1
          isplitl [H2]; · iexact H2
          isplitl [H3]; · iexact H3
          isplitl [H4]; · iexact H4
          iexact H5
        · exfalso; omega
    · by_cases h2 : t.val < 3
      · exfalso; omega
      · by_cases h3 : 3 ≤ t.val
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
          iapply ((kernelRun0_D c (grid0.coords t) _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t)) Set.univ _)
          isplitl [H0]; · iexact H0
          isplitl [H1]; · iexact H1
          isplitl [H2]; · iexact H2
          isplitl [H3]; · iexact H3
          isplitl [H4]; · iexists _; iexact H4
          isplitl [H5]; · iexists _; iexact H5
          isplitl [HS0]; · iexact HS0
          isplitl [HS1]; · iexact HS1
          isplitl [HS2]; · iexact HS2
          isplitl [HS3]; · iexact HS3
          iintro ⟨H0, H1, H2, H3, H4, H5, HS0, HS1, HS2, HS3⟩
          isplitl [HS0 HS1 HS2 HS3 Hg]
          · isplitl [HS0 HS1 HS2 HS3]
            · isplitl [HS0]
              · iexact HS0
              isplitl [HS1]
              · iexact HS1
              isplitl [HS2]
              · iexact HS2
              iexact HS3
            iexact Hg
          isplitl [Ho]; · iexact Ho
          isplitl [H0]; · iexact H0
          isplitl [H1]; · iexact H1
          isplitl [H2]; · iexact H2
          isplitl [H3]; · iexact H3
          isplitl [H4]; · iexact H4
          iexact H5
        · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_around_T_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 4, 5) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of_forgotten m ρ (fun c => (dats m 0 c).toRForget forgets0) (A_eq m) (run_main m ρ)

/-- THE FRAME: `Cert.quiescent_KernelIdeal`'s statement (Defs.lean) at any `F` . -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Own

end
-- ==== Proof.RefFrame.lean ====
/- The reference's frame: every run ends, with the argument arrays unchanged and every semaphore counter at zero. -/
module

public import proofs.«01_k».proof.Proof.Gen.ReferenceIdeal.Run
public import proofs.«01_k».proof.Defs
public import Idealize.ShloMosaic.Lib.Claim

@[expose] public section

noncomputable section

namespace Cert.ReferenceIdeal.Own

open Idealize.ShloMosaic Idealize.ShloMosaic.TcCoe Idealize.SL.Sem
open Cert.ReferenceIdeal

/-- The frame claim about the reference over the extended reals: it declares no semaphore, so all are at zero. -/
theorem frame : Cert.quiescent_ReferenceIdeal (hReferenceIdeal := Cert.ReferenceIdeal.Gen.facts) := fun m g _ =>
  (θ_run defs _ _).mono (fun r h => ⟨fun c => ⟨(h c).2.2.1, (h c).2.2.2.1, (h c).2.2.2.2.1, (h c).2.2.2.2.2⟩,
    Idealize.ShloMosaic.sem_eq_zero_of_no_sems (by decide) r.2⟩) (Cert.ReferenceIdeal.Value.run m g)

end Cert.ReferenceIdeal.Own

end
-- ==== Proof.KernelIdealBlocks.lean ====
/- What one grid point of the kernel over the extended reals computes, element by element: the padded query block, the
   padded codebooks, the block of the table of products, and one block of distances from the scratch. -/
module

public import proofs.«01_k».proof.Proof.KernelIdealBase
public import Idealize.ShloMosaic.Lib.Pointwise
public import Idealize.ShloMosaic.Lib.ValueIdx
public import Idealize.ShloMosaic.Lib.WritesUnit

@[expose] public section

-- membership in a rectangle of production extents (`View.cover_of_tiled`): the elaborator's structural look
-- recurses once per coordinate of the long axes
set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The arrays of one grid point -/

/-- The query block of one point, transposed and padded with 56 zero columns: row `r` is a query, column `K` a
    dimension, and the dimensions from 200 on are zero. -/
def qK (x0 : Vec Ideal S200x256 .bf16) (r K : Fin 256) : EReal :=
  if h : K.val < 200 then x0 (ix2 ⟨K.val, h⟩ r) else 0

/-- The codebooks padded with 56 zero rows: book `m`, dimension `K`, entry `k`. -/
def cbK (x1 : Vec Ideal S12x200x256 .bf16) (m : Fin 12) (K k : Fin 256) : EReal :=
  if h : K.val < 200 then x1 (ix3 m ⟨K.val, h⟩ k) else 0

/-- The padded codebooks as the scratch holds them. -/
def cbS (x1 : Vec Ideal S12x200x256 .bf16) : Vec Ideal S12x256x256 .bf16 := fun j => cbK x1 (j 0) (j 1) (j 2)

/-- The block of the table of products computed from a query block and the contents of the codebook scratch. -/
def lutOf (x0 : Vec Ideal S200x256 .bf16) (s8 : Vec Ideal S12x256x256 .bf16) : Vec Ideal S12x256x256 .f32 :=
  fun j => ∑ K : Fin 256, qK x0 (j 1) K * s8 (ix3 (j 0) K (j 2))

/-- A block of distances computed from 256 query rows of 768 columns, the column scratch and the norm scratch. -/
def distOf (q : Fin 256 → Fin 768 → EReal) (s9 : Vec Ideal S768x5120 .bf16) (s10 : Vec Ideal S8x4992 .f32) :
    Vec Ideal S256x4992 .f32 :=
  fun j => (∑ K : Fin 256, q (j 0) ⟨K.val, by omega⟩ * q (j 0) ⟨K.val, by omega⟩)
    + (∑ K : Fin 768, q (j 0) K * s9 (ix2 K ⟨(j 1).val, Nat.lt_of_lt_of_le (j 1).isLt (by decide)⟩))
    + s10 (ix2 0 (j 1))

/-! ## The stored values of the body at an index -/

/-- An index of a shape whose first axis has one place. -/
theorem eq_ix3_one {n1 n2 : Nat} (j : (⟨3, ![1, n1, n2]⟩ : Shape).Idx) : j = ix3 (0 : Fin 1) (j 1) (j 2) := by
  have h0 : @Eq (Fin 1) (j 0) 0 := Subsingleton.elim (α := Fin 1) _ _
  exact (eq_ix3 j).trans (congrArg (fun a : Fin 1 => ix3 a (j 1) (j 2)) h0)

/-- The query block as the body spells it. -/
theorem pay22_apply (x0 : Vec Ideal S200x256 .bf16) (r K : Fin 256) : k0_pay22 x0 (ix2 r K) = qK x0 r K := by
  pointwise [k0_pay22]
  rfl

/-- One book's products as the body spells them. -/
theorem pay26_apply (x0 : Vec Ideal S200x256 .bf16) (v : Vec Ideal S1x256x256 .bf16) (x : S1x256x256.Idx) :
    k0_pay26 (F := Ideal) x0 v x = ∑ K : Fin 256, qK x0 (x 1) K * v (ix3 0 K (x 2)) := by
  have key : ∀ r k : Fin 256, k0_pay26 (F := Ideal) x0 v (ix3 0 r k) = ∑ K : Fin 256, qK x0 r K * v (ix3 0 K k) := by
    intro r k
    pointwise [k0_pay26]
    simp only [pay22_apply]
  exact (congrArg (k0_pay26 (F := Ideal) x0 v) (eq_ix3_one x)).trans (key _ _)

/-- The stored query block of the body's three copies. -/
theorem pay23_apply (x0 : Vec Ideal S200x256 .bf16) (x : S1x256x256.Idx) :
    k0_pay23 (F := Ideal) x0 x = qK x0 (x 1) (x 2) := by
  have key : ∀ r k : Fin 256, k0_pay23 (F := Ideal) x0 (ix3 0 r k) = qK x0 r k := by
    intro r k
    pointwise [k0_pay23]
    exact pay22_apply x0 _ _
  exact (congrArg (k0_pay23 (F := Ideal) x0) (eq_ix3_one x)).trans (key _ _)

/-- A stored book is the loaded book. -/
theorem pay1_eq (v : Vec Ideal S1x200x256 .bf16) : k0_pay1 (F := Ideal) v = v := by
  funext x
  have key : ∀ (r : Fin 200) (k : Fin 256), k0_pay1 (F := Ideal) v (ix3 0 r k) = v (ix3 0 r k) := by
    intro r k
    pointwise [k0_pay1]
  exact (congrArg (k0_pay1 (F := Ideal) v) (eq_ix3_one x)).trans ((key _ _).trans (congrArg v (eq_ix3_one x).symm))

/-- The zero fill of the codebook scratch. -/
theorem pay12_apply (x : S12x256x256.Idx) : k0_pay12 (F := Ideal) x = 0 := by
  rw [eq_ix3 x]
  pointwise [k0_pay12]

/-- The zero fill of the column scratch. -/
theorem pay4_apply (x : S768x5120.Idx) : k0_pay4 (F := Ideal) x = 0 := by
  rw [eq_ix2 x]
  pointwise [k0_pay4]

/-- A tile of 512 distances as the body spells it. -/
theorem pay187_apply (a : Vec Ideal S1x256x768 .bf16) (b : Vec Ideal S768x512 .bf16) (c : Vec Ideal S1x512 .f32)
    (x : S256x512.Idx) : k0_pay187 (F := Ideal) a b c x
      = (∑ K : Fin 256, a (ix3 0 (x 0) ⟨K.val, by omega⟩) * a (ix3 0 (x 0) ⟨K.val, by omega⟩))
        + (∑ K : Fin 768, a (ix3 0 (x 0) K) * b (ix2 K (x 1))) + c (ix2 0 (x 1)) := by
  rw [eq_ix2 x]
  pointwise [k0_pay187, k0_pay185, k0_pay186]

/-- The last tile, of 384 distances. -/
theorem pay11_apply (a : Vec Ideal S1x256x768 .bf16) (b : Vec Ideal S768x384 .bf16) (c : Vec Ideal S1x384 .f32)
    (x : S256x384.Idx) : k0_pay11 (F := Ideal) (k0_pay185 a) (k0_pay186 a) b c x
      = (∑ K : Fin 256, a (ix3 0 (x 0) ⟨K.val, by omega⟩) * a (ix3 0 (x 0) ⟨K.val, by omega⟩))
        + (∑ K : Fin 768, a (ix3 0 (x 0) K) * b (ix2 K (x 1))) + c (ix2 0 (x 1)) := by
  rw [eq_ix2 x]
  pointwise [k0_pay11, k0_pay185, k0_pay186]

/-! ## The pieces the body stores, as blocks of the arrays above -/

/-- A stored slab of products is the slab of `lutOf`. -/
theorem lut_piece (x0 : Vec Ideal S200x256 .bf16) (s8 : Vec Ideal S12x256x256 .bf16) (m : ℕ)
    (inb : ∀ a, (![m, 0, 0] : Fin 3 → ℕ) a + S1x256x256.size a ≤ S12x256x256.size a)
    (x : (Rect.unit (s := S12x256x256) ![m, 0, 0] S1x256x256.size inb).shape.Idx) :
    k0_pay26 (F := Ideal) x0 (View.ld s8 (Rect.unit ![m, 0, 0] S1x256x256.size inb)) x
      = lutOf x0 s8 ((Rect.unit (s := S12x256x256) ![m, 0, 0] S1x256x256.size inb).emb x) := by
  rw [pay26_apply]
  refine Finset.sum_congr rfl fun K _ => ?_
  have h0 : (x 0).val < 1 := (x 0).isLt
  congr 2
  · apply Fin.ext; show (x 1).val = 0 + 1 * (x 1).val; omega
  · refine congrArg s8 (funext fun a => Fin.ext ?_)
    fin_cases a
    · show m + 1 * 0 = m + 1 * (x 0).val; omega
    · show 0 + 1 * K.val = K.val; omega
    · rfl

/-- A stored tile of 512 distances is the tile of `distOf`. -/
theorem dist_piece (q : Vec Ideal S1x256x768 .bf16) (s9 : Vec Ideal S768x5120 .bf16) (s10 : Vec Ideal S8x4992 .f32) (o : ℕ)
    (inb : ∀ a, (![0, o] : Fin 2 → ℕ) a + S256x512.size a ≤ S256x4992.size a)
    (inb9 : ∀ a, (![0, o] : Fin 2 → ℕ) a + S768x512.size a ≤ S768x5120.size a)
    (inb10 : ∀ a, (![0, o] : Fin 2 → ℕ) a + S1x512.size a ≤ S8x4992.size a)
    (x : (Rect.unit (s := S256x4992) ![0, o] S256x512.size inb).shape.Idx) :
    k0_pay187 (F := Ideal) q (View.ld s9 (Rect.unit ![0, o] S768x512.size inb9)) (View.ld s10 (Rect.unit ![0, o] S1x512.size inb10)) x
      = distOf (fun r K => q (ix3 0 r K)) s9 s10 ((Rect.unit (s := S256x4992) ![0, o] S256x512.size inb).emb x) := by
  rw [pay187_apply]
  have e0 : ((Rect.unit (s := S256x4992) ![0, o] S256x512.size inb).emb x 0 : Fin 256) = (x 0 : Fin 256) := by
    apply Fin.ext; show 0 + 1 * (x 0 : Fin 256).val = (x 0 : Fin 256).val; omega
  unfold distOf
  rw [e0]
  congr 1
  swap
  · refine congrArg s10 (funext fun a => Fin.ext ?_)
    fin_cases a <;> rfl
  congr 1
  refine Finset.sum_congr rfl fun K _ => ?_
  refine congrArg (q (ix3 0 _ K) * ·) (congrArg s9 (funext fun a => Fin.ext ?_))
  fin_cases a
  · show 0 + 1 * K.val = K.val; omega
  · rfl

/-- The last stored tile, of 384 distances, is the tile of `distOf`. -/
theorem dist_piece_last (q : Vec Ideal S1x256x768 .bf16) (s9 : Vec Ideal S768x5120 .bf16) (s10 : Vec Ideal S8x4992 .f32) (o : ℕ)
    (inb : ∀ a, (![0, o] : Fin 2 → ℕ) a + S256x384.size a ≤ S256x4992.size a)
    (inb9 : ∀ a, (![0, o] : Fin 2 → ℕ) a + S768x384.size a ≤ S768x5120.size a)
    (inb10 : ∀ a, (![0, o] : Fin 2 → ℕ) a + S1x384.size a ≤ S8x4992.size a)
    (x : (Rect.unit (s := S256x4992) ![0, o] S256x384.size inb).shape.Idx) :
    k0_pay11 (F := Ideal) (k0_pay185 q) (k0_pay186 q) (View.ld s9 (Rect.unit ![0, o] S768x384.size inb9)) (View.ld s10 (Rect.unit ![0, o] S1x384.size inb10)) x
      = distOf (fun r K => q (ix3 0 r K)) s9 s10 ((Rect.unit (s := S256x4992) ![0, o] S256x384.size inb).emb x) := by
  rw [pay11_apply]
  have e0 : ((Rect.unit (s := S256x4992) ![0, o] S256x384.size inb).emb x 0 : Fin 256) = (x 0 : Fin 256) := by
    apply Fin.ext; show 0 + 1 * (x 0 : Fin 256).val = (x 0 : Fin 256).val; omega
  unfold distOf
  rw [e0]
  congr 1
  swap
  · refine congrArg s10 (funext fun a => Fin.ext ?_)
    fin_cases a <;> rfl
  congr 1
  refine Finset.sum_congr rfl fun K _ => ?_
  refine congrArg (q (ix3 0 _ K) * ·) (congrArg s9 (funext fun a => Fin.ext ?_))
  fin_cases a
  · show 0 + 1 * K.val = K.val; omega
  · rfl

end Cert.KernelIdeal.Own

end
-- ==== Proof.KernelIdealStep.lean ====
/- The scratch of query rows: what one point stores there and what a later point reads back. -/
module

public import proofs.«01_k».proof.Proof.KernelIdealBlocks
public import Idealize.ShloMosaic.Lib.Pointwise
public import Idealize.ShloMosaic.Lib.ValueIdx
public import Idealize.ShloMosaic.Lib.WritesUnit
public import Idealize.ShloMosaic.Lib.Pipeline.ReadBack
public import Idealize.ShloMosaic.Lib.Ring

@[expose] public section

-- membership in a rectangle of production extents (`View.cover_of_tiled`): the elaborator's structural look
-- recurses once per coordinate of the long axes
set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The query scratch -/

/-- The offset of a whole block is zero on every axis. -/
theorem zero2 : (![0, 0] : Fin 2 → ℕ) = fun _ => 0 := by funext a; fin_cases a <;> rfl

/-- A load of a whole buffer's rectangle reads its contents there. -/
theorem readAt_unread {sig : RefSig} {κ : Kind} {sp : Space} {s : Shape} {e : EltTy} {M : Memref sig κ sp s e} (h : M.IsWhole)
    (X : s.Idx → Elt Ideal e) (r : Rect s) : M.view.readAt (Elt Ideal) r.toLoadRect (h.unread X) = View.ld X r := by
  rw [View.readAt_eq_ld, h.read_unread]

/-- The query rows the body computes distances of: those stored three points before. -/
def qRows (s7 : Vec Ideal S24x256x768 .bf16) (i : grid0.Coords) (r : Fin 256) (K : Fin 768) : EReal :=
  s7 (ix3 ⟨(i 0).val - 3, by have h : (i 0).val < 27 := (i 0).isLt; omega⟩ r K)

/-- The query scratch after one point has stored its block three times side by side. -/
def qPut (s7 : Vec Ideal S24x256x768 .bf16) (i : grid0.Coords) (x0 : Vec Ideal S200x256 .bf16) : Vec Ideal S24x256x768 .bf16 :=
  fun j => if (j 0).val = (i 0).val then qK x0 (j 1) ⟨(j 2).val % 256, Nat.mod_lt _ (by decide)⟩ else s7 j

/-- The block the body reads back, from point 3 on. -/
theorem off12_of_le (i : grid0.Coords) (h3 : 3 ≤ (i 0).val) : k0_off12 i = ![(i 0).val - 3, 0, 0] := by
  have h27 : (i 0).val < 27 := (i 0).isLt
  have e : ((i 0).val + 4294967293) % 4294967296 = (i 0).val - 3 := by omega
  rw [off12_eq, e]

/-- What the body's load of the query scratch reads, at its offset. -/
theorem qLoad_apply (s7 : Vec Ideal S24x256x768 .bf16) (i : grid0.Coords) (h3 : 3 ≤ (i 0).val)
    (off : Fin 3 → ℕ) (e : off = ![(i 0).val - 3, 0, 0])
    (inb : ∀ a, off a + S1x256x768.size a ≤ S24x256x768.size a) (r : Fin 256) (K : Fin 768) :
    View.ld s7 (Rect.unit (s := S24x256x768) off S1x256x768.size inb) (ix3 0 r K) = qRows s7 i r K := by
  subst e
  refine congrArg s7 (funext fun a => Fin.ext ?_)
  fin_cases a
  · show (i 0).val - 3 + 1 * 0 = (i 0).val - 3; omega
  · show 0 + 1 * r.val = r.val; omega
  · show 0 + 1 * K.val = K.val; omega

/-- A store of the current block leaves the block the distances read. -/
theorem qRows_qPut (s7 : Vec Ideal S24x256x768 .bf16) (i : grid0.Coords) (h3 : 3 ≤ (i 0).val) (x0 : Vec Ideal S200x256 .bf16)
    (r : Fin 256) (K : Fin 768) : qRows (qPut s7 i x0) i r K = qRows s7 i r K := by
  have h : ¬ ((i 0).val - 3 = (i 0).val) := by omega
  exact if_neg h

/-- `qPut` inside the stored block. -/
theorem qPut_of_eq (s7 : Vec Ideal S24x256x768 .bf16) (i : grid0.Coords) (x0 : Vec Ideal S200x256 .bf16) (j : S24x256x768.Idx)
    (h0 : (j 0).val = (i 0).val) (r K : Fin 256) (h1 : (j 1).val = r.val) (h2 : (j 2).val % 256 = K.val) :
    qPut s7 i x0 j = qK x0 r K := by
  unfold qPut
  rw [if_pos h0]
  exact congrArg₂ (qK x0) (Fin.ext h1) (Fin.ext h2)

/-- One of the three stores agrees with `qPut`. -/
theorem qPut_piece (s7 : Vec Ideal S24x256x768 .bf16) (i : grid0.Coords) (x0 : Vec Ideal S200x256 .bf16)
    (off : Fin 3 → ℕ) (o : ℕ) (ho : o % 256 = 0) (e : off = ![(i 0).val, 0, o])
    (inb : ∀ a, off a + S1x256x256.size a ≤ S24x256x768.size a) (x : S1x256x256.Idx) :
    k0_pay23 (F := Ideal) x0 x = qPut s7 i x0 ((Rect.unit (s := S24x256x768) off S1x256x256.size inb).emb x) := by
  subst e
  have h0 : (x 0).val < 1 := (x 0).isLt
  have h2 : (x 2).val < 256 := (x 2).isLt
  rw [pay23_apply]
  refine (qPut_of_eq s7 i x0 _ ?_ _ _ ?_ ?_).symm
  · show (i 0).val + 1 * (x 0).val = (i 0).val; omega
  · show 0 + 1 * (x 1).val = (x 1).val; omega
  · show (o + 1 * (x 2).val) % 256 = (x 2).val; omega

/-- The columns one of the three stores covers. -/
theorem qPut_mem (i : grid0.Coords) (off : Fin 3 → ℕ) (o : ℕ) (e : off = ![(i 0).val, 0, o])
    (inb : ∀ a, off a + S1x256x256.size a ≤ S24x256x768.size a) (y : S24x256x768.Idx) (h0 : (y 0).val = (i 0).val)
    (ho : o ≤ (y 2).val) (ho' : (y 2).val < o + 256) : y ∈ (Rect.unit (s := S24x256x768) off S1x256x256.size inb).set := by
  subst e
  have h1 : (y 1).val < 256 := (y 1).isLt
  rw [Rect.mem_set_unit]
  intro a
  fin_cases a
  · show (i 0).val ≤ (y 0).val ∧ (y 0).val < (i 0).val + 1; omega
  · show 0 ≤ (y 1).val ∧ (y 1).val < 0 + 256; omega
  · exact ⟨ho, ho'⟩

/-- The stores touch no other block. -/
theorem qPut_not (i : grid0.Coords) (off : Fin 3 → ℕ) (o : ℕ) (e : off = ![(i 0).val, 0, o])
    (inb : ∀ a, off a + S1x256x256.size a ≤ S24x256x768.size a) (y : S24x256x768.Idx)
    (hm : y ∈ (Rect.unit (s := S24x256x768) off S1x256x256.size inb).set) : (y 0).val = (i 0).val := by
  subst e
  rw [Rect.mem_set_unit] at hm
  have h0 : (i 0).val ≤ (y 0).val ∧ (y 0).val < (i 0).val + 1 := hm 0
  omega

theorem pay24_eq : @k0_pay24 Ideal _ = k0_pay23 := rfl
theorem pay25_eq : @k0_pay25 Ideal _ = k0_pay23 := rfl

/-- The three stores of the query block leave `qPut`. -/
theorem qPut_read {sig : RefSig} {κ : Kind} {sp : Space} {M : Memref sig κ sp S24x256x768 .bf16} (h : M.IsWhole)
    (s7 : Vec Ideal S24x256x768 .bf16) (i : grid0.Coords) (x0 : Vec Ideal S200x256 .bf16)
    (inb1 : ∀ a, (k0_off1 i) a + S1x256x256.size a ≤ S24x256x768.size a)
    (inb2 : ∀ a, (k0_off2 i) a + S1x256x256.size a ≤ S24x256x768.size a)
    (inb3 : ∀ a, (k0_off3 i) a + S1x256x256.size a ≤ S24x256x768.size a) :
    M.view.read (Elt Ideal) (M.view.writes (Elt Ideal) (h.unread s7)
      [⟨Rect.unit (k0_off3 i) S1x256x256.size inb3, k0_pay25 (F := Ideal) x0⟩,
       ⟨Rect.unit (k0_off2 i) S1x256x256.size inb2, k0_pay24 (F := Ideal) x0⟩,
       ⟨Rect.unit (k0_off1 i) S1x256x256.size inb1, k0_pay23 (F := Ideal) x0⟩]) = qPut s7 i x0 := by
  funext y
  by_cases hy : (y 0).val = (i 0).val
  · refine View.read_writes_apply_of_pieces _ _ (qPut s7 i x0) _ (View.PiecesOf.mem ?_) y ?_
    · rw [pay24_eq, pay25_eq]
      exact ⟨qPut_piece s7 i x0 _ 512 rfl (k0_off3_eq i) inb3, qPut_piece s7 i x0 _ 256 rfl (k0_off2_eq i) inb2,
        qPut_piece s7 i x0 _ 0 rfl (k0_off1_eq i) inb1, trivial⟩
    · have h2 : (y 2).val < 768 := (y 2).isLt
      by_cases ha : (y 2).val < 256
      · exact ⟨_, List.Mem.tail _ (List.Mem.tail _ (List.Mem.head _)), qPut_mem i _ 0 (k0_off1_eq i) inb1 y hy (by omega) (by omega)⟩
      by_cases hb : (y 2).val < 512
      · exact ⟨_, List.Mem.tail _ (List.Mem.head _), qPut_mem i _ 256 (k0_off2_eq i) inb2 y hy (by omega) (by omega)⟩
      · exact ⟨_, List.Mem.head _, qPut_mem i _ 512 (k0_off3_eq i) inb3 y hy (by omega) (by omega)⟩
  · rw [View.read_writes_apply_of_forall_not_mem, h.read_unread]
    · unfold qPut; rw [if_neg hy]
    · intro p hp
      rcases List.mem_cons.1 hp with rfl | hp
      · exact fun hm => hy (qPut_not i _ 512 (k0_off3_eq i) inb3 y hm)
      rcases List.mem_cons.1 hp with rfl | hp
      · exact fun hm => hy (qPut_not i _ 256 (k0_off2_eq i) inb2 y hm)
      rcases List.mem_cons.1 hp with rfl | hp
      · exact fun hm => hy (qPut_not i _ 0 (k0_off1_eq i) inb1 y hm)
      · cases hp

end Cert.KernelIdeal.Own

end
-- ==== Proof.KernelIdealValueD.lean ====
/- One grid point of the kernel in case D: its triple over the extended reals, with what it leaves in every buffer named. -/
module

public import proofs.«01_k».proof.Proof.KernelIdealStep

@[expose] public section

-- membership in a rectangle of production extents (`View.cover_of_tiled`): the elaborator's structural look
-- recurses once per coordinate of the long axes
set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

-- (the run's proof term is large: checking it walks past the default budget)
set_option maxHeartbeats 1000000 in
/-- The body's triple IN CASE D (`scf.if` 0 not taken, `scf.if` 1 not taken, `scf.if` 2 not taken, `scf.if` 3 taken: points 24, 25, 26): on whole staging memrefs — the inputs' at their contents,
    the outputs' at any contents, the scratch at the contents named —
    the body runs to the continuation holding the inputs' as they were, the outputs and the scratch at the named results: the printed functions are their skeletons (`Gen.*_eq_skeleton`),
    which `sl_exec` runs (Lib/Exec.lean) — each `scf.if` decided by the case's hypotheses `hc·`. -/
theorem valueRun0_D (c : Dev nD) (i : grid0.Coords) (arg1 : Memref sig .tc .vmem S200x256 .bf16) (harg1 : arg1.IsWhole) (arg2 : Memref sig .tc .vmem S12x200x256 .bf16) (harg2 : arg2.IsWhole) (arg3 : Memref sig .tc .vmem S4x4992 .i32) (harg3 : arg3.IsWhole) (arg4 : Memref sig .tc .vmem S1x256 .f32) (harg4 : arg4.IsWhole) (arg5 : Memref sig .tc .vmem S256x4992 .f32) (harg5 : arg5.IsWhole) (arg6 : Memref sig .tc .vmem S12x256x256 .f32) (harg6 : arg6.IsWhole) (arg7 : Memref sig .tc .vmem S24x256x768 .bf16) (harg7 : arg7.IsWhole) (arg8 : Memref sig .tc .vmem S12x256x256 .bf16) (harg8 : arg8.IsWhole) (arg9 : Memref sig .tc .vmem S768x5120 .bf16) (harg9 : arg9.IsWhole) (arg10 : Memref sig .tc .vmem S8x4992 .f32) (harg10 : arg10.IsWhole) (hc0 : ¬cond0_0 i) (hc1 : ¬cond0_1 i) (hc2 : ¬cond0_2 i) (hc3 : cond0_3 i) (hi3 : 3 ≤ (i 0).val)
    (x0 : Vec Ideal S200x256 .bf16) (x1 : Vec Ideal S12x200x256 .bf16) (x2 : Vec Ideal S4x4992 .i32) (x3 : Vec Ideal S1x256 .f32) (x5 : Vec Ideal S12x256x256 .f32) (s7 : Vec Ideal S24x256x768 .bf16) (s8 : Vec Ideal S12x256x256 .bf16) (s9 : Vec Ideal S768x5120 .bf16) (s10 : Vec Ideal S8x4992 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare x5 ∗ owns (c : Thread nD τ) arg7 fullShare s7 ∗ owns (c : Thread nD τ) arg8 fullShare s8 ∗ owns (c : Thread nD τ) arg9 fullShare s9 ∗ owns (c : Thread nD τ) arg10 fullShare s10
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (distOf (qRows s7 i) s9 s10) ∗ owns (c : Thread nD τ) arg6 fullShare x5 ∗ owns (c : Thread nD τ) arg7 fullShare s7 ∗ owns (c : Thread nD τ) arg8 fullShare s8 ∗ owns (c : Thread nD τ) arg9 fullShare s9 ∗ owns (c : Thread nD τ) arg10 fullShare s10) -∗ K ⟨⟩))
          ⊢ wp frame (wpE (defs₀ (F := Ideal)) Variants.none c none) E (cc0_aq_adc i arg1 harg1 arg2 harg2 arg3 harg3 arg4 harg4 arg5 harg5 arg6 harg6 arg7 harg7 arg8 harg8 arg9 harg9 arg10 harg10) K := by
    intro E K
    simp only [cc0_aq_adc_eq_skeleton]; unfold cc0_aq_adc_skel
    simp only [k0_part27_eq_skeleton, k0_part28_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hs0, HS0⟩, ⟨%fs1, %hs1, HS1⟩, ⟨%fs2, %hs2, HS2⟩, ⟨%fs3, %hs3, HS3⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hs0; obtain rfl := harg8.eq_unread hs1; obtain rfl := harg9.eq_unread hs2; obtain rfl := harg10.eq_unread hs3
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      funext y
      sl_unfold_run_names
      have hq : ∀ inb, qRows s7 i = fun r K => View.ld s7 (Rect.unit (s := S24x256x768) (k0_off12 i) S1x256x768.size inb) (ix3 0 r K) :=
        fun inb => funext fun r => funext fun K => (qLoad_apply s7 i hi3 _ (off12_of_le i hi3) inb r K).symm
      rw [hq (k0_off12_inb i hc3)]
      refine View.read_writes_apply_of_pieces _ _ (distOf _ s9 s10) _ (View.PiecesOf.mem ?_) y (View.cover_of_tiledBy _ ![256, 128] (by sl_kernel_rfl) y)
      simp only [readAt_unread]
      refine ⟨?_, ?_, ?_, ?_, ?_, ?_, ?_, ?_, ?_, ?_, trivial⟩
      · exact fun x => (dist_piece_last _ _ _ 4608 inb_S256x4992_S256x384_0_4608 _ _ x)
      · exact fun x => (dist_piece _ _ _ 4096 inb_S256x4992_S256x512_0_4096 _ _ x)
      · exact fun x => (dist_piece _ _ _ 3584 inb_S256x4992_S256x512_0_3584 _ _ x)
      · exact fun x => (dist_piece _ _ _ 3072 inb_S256x4992_S256x512_0_3072 _ _ x)
      · exact fun x => (dist_piece _ _ _ 2560 inb_S256x4992_S256x512_0_2560 _ _ x)
      · exact fun x => (dist_piece _ _ _ 2048 inb_S256x4992_S256x512_0_2048 _ _ x)
      · exact fun x => (dist_piece _ _ _ 1536 inb_S256x4992_S256x512_0_1536 _ _ x)
      · exact fun x => (dist_piece _ _ _ 1024 inb_S256x4992_S256x512_0_1024 _ _ x)
      · exact fun x => (dist_piece _ _ _ 512 inb_S256x4992_S256x512_0_512 _ _ x)
      · exact fun x => (dist_piece _ _ _ 0 inb_S256x4992_S256x512_0_0 _ _ x)
    isplitl [H5]
    · iexists _; isplitr; swap; · iexact H5
      ipureintro; exact harg6.read_unread _
    isplitl [HS0]
    · iexists _; isplitr; swap; · iexact HS0
      ipureintro; exact harg7.read_unread _
    isplitl [HS1]
    · iexists _; isplitr; swap; · iexact HS1
      ipureintro; exact harg8.read_unread _
    isplitl [HS2]
    · iexists _; isplitr; swap; · iexact HS2
      ipureintro; exact harg9.read_unread _
    · iexists _; isplitr; swap; · iexact HS3
      ipureintro; exact harg10.read_unread _

end Cert.KernelIdeal.Own

end
-- ==== Proof.KernelIdealValueC.lean ====
/- One grid point of the kernel in case C: its triple over the extended reals, with what it leaves in every buffer named. -/
module

public import proofs.«01_k».proof.Proof.KernelIdealValueD

@[expose] public section

-- membership in a rectangle of production extents (`View.cover_of_tiled`): the elaborator's structural look
-- recurses once per coordinate of the long axes
set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

-- (the run's proof term is large: checking it walks past the default budget)
set_option maxHeartbeats 1000000 in
/-- The body's triple IN CASE C (`scf.if` 0 not taken, `scf.if` 1 taken, `scf.if` 2 not taken, `scf.if` 3 taken: points 3, 4, … 23: 21 of 27): on whole staging memrefs — the inputs' at their contents,
    the outputs' at any contents, the scratch at the contents named —
    the body runs to the continuation holding the inputs' as they were, the outputs and the scratch at the named results: the printed functions are their skeletons (`Gen.*_eq_skeleton`),
    which `sl_exec` runs (Lib/Exec.lean) — each `scf.if` decided by the case's hypotheses `hc·`. -/
theorem valueRun0_C (c : Dev nD) (i : grid0.Coords) (arg1 : Memref sig .tc .vmem S200x256 .bf16) (harg1 : arg1.IsWhole) (arg2 : Memref sig .tc .vmem S12x200x256 .bf16) (harg2 : arg2.IsWhole) (arg3 : Memref sig .tc .vmem S4x4992 .i32) (harg3 : arg3.IsWhole) (arg4 : Memref sig .tc .vmem S1x256 .f32) (harg4 : arg4.IsWhole) (arg5 : Memref sig .tc .vmem S256x4992 .f32) (harg5 : arg5.IsWhole) (arg6 : Memref sig .tc .vmem S12x256x256 .f32) (harg6 : arg6.IsWhole) (arg7 : Memref sig .tc .vmem S24x256x768 .bf16) (harg7 : arg7.IsWhole) (arg8 : Memref sig .tc .vmem S12x256x256 .bf16) (harg8 : arg8.IsWhole) (arg9 : Memref sig .tc .vmem S768x5120 .bf16) (harg9 : arg9.IsWhole) (arg10 : Memref sig .tc .vmem S8x4992 .f32) (harg10 : arg10.IsWhole) (hc0 : ¬cond0_0 i) (hc1 : cond0_1 i) (hc2 : ¬cond0_2 i) (hc3 : cond0_3 i) (hi3 : 3 ≤ (i 0).val)
    (x0 : Vec Ideal S200x256 .bf16) (x1 : Vec Ideal S12x200x256 .bf16) (x2 : Vec Ideal S4x4992 .i32) (x3 : Vec Ideal S1x256 .f32) (x5 : Vec Ideal S12x256x256 .f32) (s7 : Vec Ideal S24x256x768 .bf16) (s8 : Vec Ideal S12x256x256 .bf16) (s9 : Vec Ideal S768x5120 .bf16) (s10 : Vec Ideal S8x4992 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare x5 ∗ owns (c : Thread nD τ) arg7 fullShare s7 ∗ owns (c : Thread nD τ) arg8 fullShare s8 ∗ owns (c : Thread nD τ) arg9 fullShare s9 ∗ owns (c : Thread nD τ) arg10 fullShare s10
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (distOf (qRows s7 i) s9 s10) ∗ owns (c : Thread nD τ) arg6 fullShare (lutOf x0 s8) ∗ owns (c : Thread nD τ) arg7 fullShare (qPut s7 i x0) ∗ owns (c : Thread nD τ) arg8 fullShare s8 ∗ owns (c : Thread nD τ) arg9 fullShare s9 ∗ owns (c : Thread nD τ) arg10 fullShare s10) -∗ K ⟨⟩))
          ⊢ wp frame (wpE (defs₀ (F := Ideal)) Variants.none c none) E (cc0_aq_adc i arg1 harg1 arg2 harg2 arg3 harg3 arg4 harg4 arg5 harg5 arg6 harg6 arg7 harg7 arg8 harg8 arg9 harg9 arg10 harg10) K := by
    intro E K
    simp only [cc0_aq_adc_eq_skeleton]; unfold cc0_aq_adc_skel
    simp only [k0_part3_eq_skeleton, k0_part4_eq_skeleton, k0_part5_eq_skeleton, k0_part27_eq_skeleton, k0_part28_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hs0, HS0⟩, ⟨%fs1, %hs1, HS1⟩, ⟨%fs2, %hs2, HS2⟩, ⟨%fs3, %hs3, HS3⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hs0; obtain rfl := harg8.eq_unread hs1; obtain rfl := harg9.eq_unread hs2; obtain rfl := harg10.eq_unread hs3
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      funext y
      sl_unfold_run_names
      have hq : ∀ inb, qRows s7 i = fun r K => View.ld (qPut s7 i x0) (Rect.unit (s := S24x256x768) (k0_off12 i) S1x256x768.size inb) (ix3 0 r K) :=
        fun inb => funext fun r => funext fun K => ((qLoad_apply (qPut s7 i x0) i hi3 _ (off12_of_le i hi3) inb r K).trans (qRows_qPut s7 i hi3 x0 r K)).symm
      rw [hq (k0_off12_inb i hc3)]
      refine View.read_writes_apply_of_pieces _ _ (distOf _ s9 s10) _ (View.PiecesOf.mem ?_) y (View.cover_of_tiledBy _ ![256, 128] (by sl_kernel_rfl) y)
      simp only [View.readAt_eq_ld, harg1.read_unread, harg9.read_unread, harg10.read_unread, View.ld_unit_zero (S := S200x256) zero2, qPut_read harg7 s7 i x0]
      refine ⟨?_, ?_, ?_, ?_, ?_, ?_, ?_, ?_, ?_, ?_, trivial⟩
      · exact fun x => (dist_piece_last _ _ _ 4608 inb_S256x4992_S256x384_0_4608 _ _ x)
      · exact fun x => (dist_piece _ _ _ 4096 inb_S256x4992_S256x512_0_4096 _ _ x)
      · exact fun x => (dist_piece _ _ _ 3584 inb_S256x4992_S256x512_0_3584 _ _ x)
      · exact fun x => (dist_piece _ _ _ 3072 inb_S256x4992_S256x512_0_3072 _ _ x)
      · exact fun x => (dist_piece _ _ _ 2560 inb_S256x4992_S256x512_0_2560 _ _ x)
      · exact fun x => (dist_piece _ _ _ 2048 inb_S256x4992_S256x512_0_2048 _ _ x)
      · exact fun x => (dist_piece _ _ _ 1536 inb_S256x4992_S256x512_0_1536 _ _ x)
      · exact fun x => (dist_piece _ _ _ 1024 inb_S256x4992_S256x512_0_1024 _ _ x)
      · exact fun x => (dist_piece _ _ _ 512 inb_S256x4992_S256x512_0_512 _ _ x)
      · exact fun x => (dist_piece _ _ _ 0 inb_S256x4992_S256x512_0_0 _ _ x)
    isplitl [H5]
    · iexists _; isplitr; swap; · iexact H5
      ipureintro
      funext y
      sl_unfold_run_names
      refine View.read_writes_apply_of_pieces _ _ (lutOf x0 s8) _ (View.PiecesOf.mem ?_) y (View.cover_of_tiledBy _ ![1, 256, 256] (by sl_kernel_rfl) y)
      simp only [readAt_unread, View.ld_unit_zero (S := S200x256) zero2]
      refine ⟨?_, ?_, ?_, ?_, ?_, ?_, ?_, ?_, ?_, ?_, ?_, ?_, trivial⟩
      · exact fun x => lut_piece _ _ 11 inb_S12x256x256_S1x256x256_11_0_0 x
      · exact fun x => lut_piece _ _ 10 inb_S12x256x256_S1x256x256_10_0_0 x
      · exact fun x => lut_piece _ _ 9 inb_S12x256x256_S1x256x256_9_0_0 x
      · exact fun x => lut_piece _ _ 8 inb_S12x256x256_S1x256x256_8_0_0 x
      · exact fun x => lut_piece _ _ 7 inb_S12x256x256_S1x256x256_7_0_0 x
      · exact fun x => lut_piece _ _ 6 inb_S12x256x256_S1x256x256_6_0_0 x
      · exact fun x => lut_piece _ _ 5 inb_S12x256x256_S1x256x256_5_0_0 x
      · exact fun x => lut_piece _ _ 4 inb_S12x256x256_S1x256x256_4_0_0 x
      · exact fun x => lut_piece _ _ 3 inb_S12x256x256_S1x256x256_3_0_0 x
      · exact fun x => lut_piece _ _ 2 inb_S12x256x256_S1x256x256_2_0_0 x
      · exact fun x => lut_piece _ _ 1 inb_S12x256x256_S1x256x256_1_0_0 x
      · exact fun x => lut_piece _ _ 0 inb_S12x256x256_S1x256x256_0_0_0 x
    isplitl [HS0]
    · iexists _; isplitr; swap; · iexact HS0
      ipureintro
      sl_unfold_run_names
      simp only [readAt_unread, View.ld_unit_zero (S := S200x256) zero2]
      exact qPut_read harg7 s7 i x0 _ _ _
    isplitl [HS1]
    · iexists _; isplitr; swap; · iexact HS1
      ipureintro; exact harg8.read_unread _
    isplitl [HS2]
    · iexists _; isplitr; swap; · iexact HS2
      ipureintro; exact harg9.read_unread _
    · iexists _; isplitr; swap; · iexact HS3
      ipureintro; exact harg10.read_unread _

end Cert.KernelIdeal.Own

end
-- ==== Proof.KernelIdealGather.lean ====
/- What the decoding loop gathers: the coded entries of the twelve books, added, and the norms. -/
module

public import proofs.«01_k».proof.Proof.KernelIdealStep
public import Idealize.ShloMosaic.Lib.Pointwise
public import Idealize.ShloMosaic.Lib.ValueIdx
public import Idealize.ShloMosaic.Lib.WritesUnit
public import Idealize.ShloMosaic.Lib.Pipeline.ReadBack
public import Idealize.ShloMosaic.Lib.Ring

@[expose] public section

-- membership in a rectangle of production extents (`View.cover_of_tiled`): the elaborator's structural look
-- recurses once per coordinate of the long axes
set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## One gathered number -/

/-- The low byte of a word is below 256. -/
theorem and255 (u : BitVec 32) : (IntOp.andi u 255#32).toNat = u.toNat % 256 := by
  show (u &&& 255#32).toNat = _
  rw [BitVec.toNat_and]
  exact Nat.and_two_pow_sub_one_eq_mod u.toNat 8

/-- The low seven bits of a word's low byte. -/
theorem and127 (u : BitVec 32) : (IntOp.andi (IntOp.andi u 255#32) 127#32).toNat = u.toNat % 128 := by
  show (IntOp.andi u 255#32 &&& 127#32).toNat = _
  rw [BitVec.toNat_and, and255]
  refine (Nat.and_two_pow_sub_one_eq_mod (u.toNat % 256) 7).trans ?_
  omega

/-- The wrap the gather applies to its index leaves it, as it is never negative. -/
theorem wrap127 (u : BitVec 32) :
    (Scalar.select (IntOp.cmpi CmpIPredicate.slt (IntOp.andi (IntOp.andi u 255#32) 127#32) 0#32)
      (IntOp.addi (IntOp.andi (IntOp.andi u 255#32) 127#32) 128#32) (IntOp.andi (IntOp.andi u 255#32) 127#32)).toNat % 128 = u.toNat % 128 := by
  have h := and127 u
  generalize IntOp.andi (IntOp.andi u 255#32) 127#32 = v at h ⊢
  have hs : IntOp.cmpi CmpIPredicate.slt v 0#32 = 0#1 := by
    have : v.toInt = (v.toNat : ℤ) := by rw [BitVec.toInt_eq_toNat_of_lt (by omega)]
    have h0 : ¬ (v.toInt < (0#32 : BitVec 32).toInt) := by rw [this]; show ¬ ((v.toNat : ℤ) < 0); omega
    have h1 : BitVec.slt v 0#32 = false := by rw [BitVec.slt_eq_decide]; exact decide_eq_false h0
    show BitVec.ofBool (BitVec.slt v 0#32) = 0#1
    rw [h1]; rfl
  rw [hs]
  show v.toNat % 128 = _
  omega

/-- Which half of the table a byte reads. -/
theorem sge128 (u : BitVec 32) :
    IntOp.cmpi CmpIPredicate.sge (IntOp.andi u 255#32) 128#32 = if 128 ≤ u.toNat % 256 then 1#1 else 0#1 := by
  have h := and255 u
  generalize IntOp.andi u 255#32 = v at h ⊢
  have e : v.toInt = (v.toNat : ℤ) := by rw [BitVec.toInt_eq_toNat_of_lt (by omega)]
  show BitVec.ofBool (BitVec.sle 128#32 v) = _
  rw [BitVec.sle_eq_decide, e]
  by_cases hb : 128 ≤ u.toNat % 256
  · rw [if_pos hb, decide_eq_true (show (128#32 : BitVec 32).toInt ≤ (v.toNat : ℤ) by show (128 : ℤ) ≤ v.toNat; omega)]; rfl
  · rw [if_neg hb, decide_eq_false (show ¬ (128#32 : BitVec 32).toInt ≤ (v.toNat : ℤ) by show ¬ (128 : ℤ) ≤ v.toNat; omega)]; rfl

/-- A number gathered through the two halves of a 256-wide table is the table's entry at the low byte. -/
theorem gat (f : Fin 256 → EReal) (u : BitVec 32) (p1 p2) :
    Scalar.select (IntOp.cmpi CmpIPredicate.sge (IntOp.andi u 255#32) 128#32)
      (f ⟨128 + (Scalar.select (IntOp.cmpi CmpIPredicate.slt (IntOp.andi (IntOp.andi u 255#32) 127#32) 0#32)
        (IntOp.addi (IntOp.andi (IntOp.andi u 255#32) 127#32) 128#32) (IntOp.andi (IntOp.andi u 255#32) 127#32)).toNat % 128, p1⟩)
      (f ⟨(Scalar.select (IntOp.cmpi CmpIPredicate.slt (IntOp.andi (IntOp.andi u 255#32) 127#32) 0#32)
        (IntOp.addi (IntOp.andi (IntOp.andi u 255#32) 127#32) 128#32) (IntOp.andi (IntOp.andi u 255#32) 127#32)).toNat % 128, p2⟩)
      = f ⟨u.toNat % 256, Nat.mod_lt _ (by decide)⟩ := by
  have hw := wrap127 u
  rw [sge128]
  by_cases hb : 128 ≤ u.toNat % 256
  · rw [if_pos hb]
    show f _ = f _
    refine congrArg f (Fin.ext ?_)
    refine (congrArg (128 + ·) hw).trans ?_
    show 128 + u.toNat % 128 = u.toNat % 256
    omega
  · rw [if_neg hb]
    show f _ = f _
    refine congrArg f (Fin.ext ?_)
    exact hw.trans (by show u.toNat % 128 = u.toNat % 256; omega)

/-- `gat` for a row of one book. -/
theorem gat3 (x1 : Vec Ideal S12x200x256 .bf16) (b : Fin 12) (r : Fin 200) (u : BitVec 32) (p1 p2) :
    Scalar.select (IntOp.cmpi CmpIPredicate.sge (IntOp.andi u 255#32) 128#32)
      (x1 (ix3 b r ⟨128 + (Scalar.select (IntOp.cmpi CmpIPredicate.slt (IntOp.andi (IntOp.andi u 255#32) 127#32) 0#32)
        (IntOp.addi (IntOp.andi (IntOp.andi u 255#32) 127#32) 128#32) (IntOp.andi (IntOp.andi u 255#32) 127#32)).toNat % 128, p1⟩))
      (x1 (ix3 b r ⟨(Scalar.select (IntOp.cmpi CmpIPredicate.slt (IntOp.andi (IntOp.andi u 255#32) 127#32) 0#32)
        (IntOp.addi (IntOp.andi (IntOp.andi u 255#32) 127#32) 128#32) (IntOp.andi (IntOp.andi u 255#32) 127#32)).toNat % 128, p2⟩))
      = x1 (ix3 b r ⟨u.toNat % 256, Nat.mod_lt _ (by decide)⟩) :=
  gat (fun k => x1 (ix3 b r k)) u p1 p2

/-! ## What one column of the decoded codebooks holds -/

/-- The code of book `b` in column `c`: byte `b % 4` of word `b / 4`. -/
def codeAt (x2 : Vec Ideal S4x4992 .i32) (b : Fin 12) (c : Fin 4992) : Fin 256 :=
  ⟨(IntOp.shrsi ArithUnit.vector (x2 (ix2 ⟨b.val / 4, by omega⟩ c)) (BitVec.ofNat 32 (8 * (b.val % 4)))).toNat % 256, Nat.mod_lt _ (by decide)⟩

/-- One entry of the vector column `c` encodes: the coded entries of the twelve books added. -/
def recon (x1 : Vec Ideal S12x200x256 .bf16) (x2 : Vec Ideal S4x4992 .i32) (r : Fin 200) (c : Fin 4992) : EReal :=
  ∑ b : Fin 12, x1 (ix3 b r (codeAt x2 b c))

/-- A sum over twelve, written out. -/
theorem sum12 (f : Fin 12 → EReal) : ∑ b : Fin 12, f b = f 0 + f 1 + f 2 + f 3 + f 4 + f 5 + f 6 + f 7 + f 8 + f 9 + f 10 + f 11 := by
  rw [Fin.sum_univ_castSucc, Fin.sum_univ_castSucc, Fin.sum_univ_castSucc, Fin.sum_univ_castSucc, Fin.sum_univ_castSucc, Fin.sum_univ_castSucc, Fin.sum_univ_castSucc, Fin.sum_univ_castSucc, Fin.sum_univ_castSucc, Fin.sum_univ_castSucc, Fin.sum_univ_castSucc, Fin.sum_univ_castSucc, Fin.sum_univ_zero, zero_add]
  rfl

/-- Its leading bf16 part, scaled. -/
def hiW (x1 : Vec Ideal S12x200x256 .bf16) (x2 : Vec Ideal S4x4992 .i32) (r : Fin 200) (c : Fin 4992) : EReal :=
  Ideal.ofBits FTy.f32 3221225472#32 * recon x1 x2 r c

/-- The norm column `c` looks up. -/
def nrmW (x2 : Vec Ideal S4x4992 .i32) (x3 : Vec Ideal S1x256 .f32) (c : Fin 4992) : EReal :=
  x3 (ix2 0 ⟨(IntOp.shrsi ArithUnit.vector (x2 (ix2 3 c)) 0#32).toNat % 256, Nat.mod_lt _ (by decide)⟩)

/-! ## The words one trip reads -/

/-- One row of code words, over the columns of one trip. -/
def wordRow (x2 : Vec Ideal S4x4992 .i32) (w : Fin 4) (i : grid0.Coords) (k : Fin k0_t1_loop.trips) : Vec Ideal S1x128 .i32 :=
  fun j => x2 (ix2 w ⟨1664 * (i 0).val % 4992 + 128 * (k.val % 13) + (j 1).val, by have h : (j 1).val < 128 := (j 1).isLt; omega⟩)

theorem wordRow_apply (x2 : Vec Ideal S4x4992 .i32) (w : Fin 4) (i : grid0.Coords) (k : Fin k0_t1_loop.trips) (l : Fin 128) (c : Fin 4992)
    (hi : (i 0).val < 3) (hc : c.val = 1664 * (i 0).val + 128 * k.val + l.val) : wordRow x2 w i k (ix2 0 l) = x2 (ix2 w c) := by
  have hk : k.val < 13 := k.isLt
  refine congrArg (fun c => x2 (ix2 w c)) (Fin.ext ?_)
  show 1664 * (i 0).val % 4992 + 128 * (k.val % 13) + l.val = c.val
  omega

theorem row4 (x2 : Vec Ideal S4x4992 .i32) (i : grid0.Coords) (k : Fin k0_t1_loop.trips) (hi : (i 0).val < 3)
    (off : Fin 2 → ℕ) (w : Fin 4) (e : off = ![w.val, 1664 * (i 0).val + 128 * k.val]) (inb) :
    View.ld x2 (Rect.unit (s := S4x4992) off S1x128.size inb) = wordRow x2 w i k := by
  subst e
  have hk : k.val < 13 := k.isLt
  funext j
  refine congrArg x2 (funext fun a => Fin.ext ?_)
  fin_cases a
  · have h0 : (j 0).val < 1 := (j 0).isLt
    show w.val + 1 * (j 0).val = w.val
    omega
  · show 1664 * (i 0).val + 128 * k.val + 1 * (j 1).val = 1664 * (i 0).val % 4992 + 128 * (k.val % 13) + (j 1).val
    omega

/-- One term of the sum: the entry a book's gather reads in column `c`. -/
theorem gatB (x1 : Vec Ideal S12x200x256 .bf16) (x2 : Vec Ideal S4x4992 .i32) (b : Fin 12) (w : Fin 4) (s : BitVec 32)
    (hw : w = ⟨b.val / 4, by omega⟩) (hs : s = BitVec.ofNat 32 (8 * (b.val % 4))) (i : grid0.Coords) (k : Fin k0_t1_loop.trips)
    (r : Fin 200) (l : Fin 128) (c : Fin 4992) (hi : (i 0).val < 3) (hc : c.val = 1664 * (i 0).val + 128 * k.val + l.val) (p1 p2) :
    Scalar.select (IntOp.cmpi CmpIPredicate.sge (IntOp.andi (IntOp.shrsi ArithUnit.vector (wordRow x2 w i k (ix2 0 l)) s) 255#32) 128#32)
      (x1 (ix3 b r ⟨128 + (Scalar.select (IntOp.cmpi CmpIPredicate.slt (IntOp.andi (IntOp.andi (IntOp.shrsi ArithUnit.vector (wordRow x2 w i k (ix2 0 l)) s) 255#32) 127#32) 0#32)
        (IntOp.addi (IntOp.andi (IntOp.andi (IntOp.shrsi ArithUnit.vector (wordRow x2 w i k (ix2 0 l)) s) 255#32) 127#32) 128#32) (IntOp.andi (IntOp.andi (IntOp.shrsi ArithUnit.vector (wordRow x2 w i k (ix2 0 l)) s) 255#32) 127#32)).toNat % 128, p1⟩))
      (x1 (ix3 b r ⟨(Scalar.select (IntOp.cmpi CmpIPredicate.slt (IntOp.andi (IntOp.andi (IntOp.shrsi ArithUnit.vector (wordRow x2 w i k (ix2 0 l)) s) 255#32) 127#32) 0#32)
        (IntOp.addi (IntOp.andi (IntOp.andi (IntOp.shrsi ArithUnit.vector (wordRow x2 w i k (ix2 0 l)) s) 255#32) 127#32) 128#32) (IntOp.andi (IntOp.andi (IntOp.shrsi ArithUnit.vector (wordRow x2 w i k (ix2 0 l)) s) 255#32) 127#32)).toNat % 128, p2⟩))
      = x1 (ix3 b r (codeAt x2 b c)) := by
  rw [gat3]
  refine congrArg (fun q => x1 (ix3 b r q)) (Fin.ext ?_)
  subst hw hs
  show (IntOp.shrsi ArithUnit.vector (wordRow x2 _ i k (ix2 0 l)) _).toNat % 256 = _
  rw [wordRow_apply x2 _ i k l c hi hc]
  rfl

-- (one proof term walks the whole chain of twelve gathers)
set_option maxHeartbeats 4000000 in
/-- The twelve gathered terms of an even row, added. -/
theorem acc_even (i : grid0.Coords) (arg2 : Memref sig .tc .vmem S12x200x256 .bf16) (harg2 : arg2.IsWhole) (arg3 : Memref sig .tc .vmem S4x4992 .i32) (harg3 : arg3.IsWhole) (arg4 : Memref sig .tc .vmem S1x256 .f32) (harg4 : arg4.IsWhole) (k0_h3 : k0_cond3 i = 1#1) (X_arg2 : BufTy.Contents (Elt Ideal) arg2.view.ty) (X_arg3 : BufTy.Contents (Elt Ideal) arg3.view.ty) (X_arg4 : BufTy.Contents (Elt Ideal) arg4.view.ty) (k : Fin k0_t1_loop.trips) (r : Fin 100) (l : Fin 128) (c : Fin 4992)
    (hi : (i 0).val < 3) (hc : c.val = 1664 * (i 0).val + 128 * k.val + l.val) :
    trip_k0_t1.sl.r_97 i arg2 arg3 k0_h3 X_arg2 X_arg3 k (ix2 r l)
      = recon (arg2.view.read (Elt Ideal) X_arg2) (arg3.view.read (Elt Ideal) X_arg3) ⟨2 * r.val, by omega⟩ c := by
  sl_unfold_run_names
  simp only [View.readAt_eq_ld]
  generalize View.read (Elt Ideal) arg2.view X_arg2 = x1
  generalize View.read (Elt Ideal) arg3.view X_arg3 = x2
  have e4 := row4 x2 i k hi _ 0 (k0_off4_eq i k)
  have e5 := row4 x2 i k hi _ 1 (k0_off5_eq i k)
  have e6 := row4 x2 i k hi _ 2 (k0_off6_eq i k)
  simp only [e4, e5, e6]
  pointwise [k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169]
  unfold recon
  rw [sum12]
  refine congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_) ?_) ?_) ?_) ?_
  · exact gatB x1 x2 0 0 0#32 rfl rfl i k _ l c hi hc _ _
  · exact gatB x1 x2 1 0 8#32 rfl rfl i k _ l c hi hc _ _
  · exact gatB x1 x2 2 0 16#32 rfl rfl i k _ l c hi hc _ _
  · exact gatB x1 x2 3 0 24#32 rfl rfl i k _ l c hi hc _ _
  · exact gatB x1 x2 4 1 0#32 rfl rfl i k _ l c hi hc _ _
  · exact gatB x1 x2 5 1 8#32 rfl rfl i k _ l c hi hc _ _
  · exact gatB x1 x2 6 1 16#32 rfl rfl i k _ l c hi hc _ _
  · exact gatB x1 x2 7 1 24#32 rfl rfl i k _ l c hi hc _ _
  · exact gatB x1 x2 8 2 0#32 rfl rfl i k _ l c hi hc _ _
  · exact gatB x1 x2 9 2 8#32 rfl rfl i k _ l c hi hc _ _
  · exact gatB x1 x2 10 2 16#32 rfl rfl i k _ l c hi hc _ _
  · exact gatB x1 x2 11 2 24#32 rfl rfl i k _ l c hi hc _ _

-- (one proof term walks the whole chain of twelve gathers)
set_option maxHeartbeats 4000000 in
/-- The twelve gathered terms of an odd row, added and scaled. -/
theorem acc_odd (i : grid0.Coords) (arg2 : Memref sig .tc .vmem S12x200x256 .bf16) (harg2 : arg2.IsWhole) (arg3 : Memref sig .tc .vmem S4x4992 .i32) (harg3 : arg3.IsWhole) (arg4 : Memref sig .tc .vmem S1x256 .f32) (harg4 : arg4.IsWhole) (k0_h3 : k0_cond3 i = 1#1) (X_arg2 : BufTy.Contents (Elt Ideal) arg2.view.ty) (X_arg3 : BufTy.Contents (Elt Ideal) arg3.view.ty) (X_arg4 : BufTy.Contents (Elt Ideal) arg4.view.ty) (k : Fin k0_t1_loop.trips) (r : Fin 100) (l : Fin 128) (c : Fin 4992)
    (hi : (i 0).val < 3) (hc : c.val = 1664 * (i 0).val + 128 * k.val + l.val) :
    k0_pay173 (trip_k0_t1.sl.r_93 i arg2 arg3 k0_h3 X_arg2 X_arg3 k) (trip_k0_t1.sl.r_98 arg2 X_arg2)
        (trip_k0_t1.sl.r_99 arg2 X_arg2) (trip_k0_t1.sl.r_100 i arg3 k0_h3 X_arg3 k)
        (trip_k0_t1.sl.r_101 i arg3 k0_h3 X_arg3 k) (trip_k0_t1.sl.r_102 i arg3 k0_h3 X_arg3 k) (ix2 r l)
      = hiW (arg2.view.read (Elt Ideal) X_arg2) (arg3.view.read (Elt Ideal) X_arg3) ⟨2 * r.val + 1, by omega⟩ c := by
  sl_unfold_run_names
  simp only [View.readAt_eq_ld]
  generalize View.read (Elt Ideal) arg2.view X_arg2 = x1
  generalize View.read (Elt Ideal) arg3.view X_arg3 = x2
  have e4 := row4 x2 i k hi _ 0 (k0_off4_eq i k)
  have e5 := row4 x2 i k hi _ 1 (k0_off5_eq i k)
  have e6 := row4 x2 i k hi _ 2 (k0_off6_eq i k)
  simp only [e4, e5, e6]
  pointwise [k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay173]
  unfold hiW recon
  rw [sum12]
  refine congrArg (Ideal.ofBits FTy.f32 3221225472#32 * ·) ?_
  refine congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_) ?_) ?_) ?_) ?_
  · exact gatB x1 x2 0 0 0#32 rfl rfl i k _ l c hi hc _ _
  · exact gatB x1 x2 1 0 8#32 rfl rfl i k _ l c hi hc _ _
  · exact gatB x1 x2 2 0 16#32 rfl rfl i k _ l c hi hc _ _
  · exact gatB x1 x2 3 0 24#32 rfl rfl i k _ l c hi hc _ _
  · exact gatB x1 x2 4 1 0#32 rfl rfl i k _ l c hi hc _ _
  · exact gatB x1 x2 5 1 8#32 rfl rfl i k _ l c hi hc _ _
  · exact gatB x1 x2 6 1 16#32 rfl rfl i k _ l c hi hc _ _
  · exact gatB x1 x2 7 1 24#32 rfl rfl i k _ l c hi hc _ _
  · exact gatB x1 x2 8 2 0#32 rfl rfl i k _ l c hi hc _ _
  · exact gatB x1 x2 9 2 8#32 rfl rfl i k _ l c hi hc _ _
  · exact gatB x1 x2 10 2 16#32 rfl rfl i k _ l c hi hc _ _
  · exact gatB x1 x2 11 2 24#32 rfl rfl i k _ l c hi hc _ _

/-- The norm a column looks up, on each of the eight equal rows. -/
theorem nrm_apply (i : grid0.Coords) (arg2 : Memref sig .tc .vmem S12x200x256 .bf16) (harg2 : arg2.IsWhole) (arg3 : Memref sig .tc .vmem S4x4992 .i32) (harg3 : arg3.IsWhole) (arg4 : Memref sig .tc .vmem S1x256 .f32) (harg4 : arg4.IsWhole) (k0_h3 : k0_cond3 i = 1#1) (X_arg2 : BufTy.Contents (Elt Ideal) arg2.view.ty) (X_arg3 : BufTy.Contents (Elt Ideal) arg3.view.ty) (X_arg4 : BufTy.Contents (Elt Ideal) arg4.view.ty) (k : Fin k0_t1_loop.trips) (r : Fin 8) (l : Fin 128) (c : Fin 4992)
    (hi : (i 0).val < 3) (hc : c.val = 1664 * (i 0).val + 128 * k.val + l.val) :
    k0_pay7 (trip_k0_t1.sl.r_105 arg4 X_arg4) (trip_k0_t1.sl.r_106 i arg3 k0_h3 X_arg3 k)
            (trip_k0_t1.sl.r_107 i arg3 arg4 k0_h3 X_arg3 X_arg4 k) (trip_k0_t1.sl.r_108 i arg3 k0_h3 X_arg3 k) (ix2 r l)
      = nrmW (arg3.view.read (Elt Ideal) X_arg3) (arg4.view.read (Elt Ideal) X_arg4) c := by
  sl_unfold_run_names
  simp only [View.readAt_eq_ld]
  generalize View.read (Elt Ideal) arg3.view X_arg3 = x2
  generalize View.read (Elt Ideal) arg4.view X_arg4 = x3
  have e10 := row4 x2 i k hi _ 3 (k0_off10_eq i k)
  simp only [e10]
  pointwise [k0_pay7, k0_pay179, k0_pay180, k0_pay181, k0_pay182, k0_pay183, k0_pay184]
  refine (gat (fun q => x3 (ix2 0 q)) (IntOp.shrsi ArithUnit.vector (wordRow x2 3 i k (ix2 0 l)) 0#32) _ _).trans ?_
  show x3 (ix2 0 ⟨(IntOp.shrsi ArithUnit.vector (wordRow x2 3 i k (ix2 0 l)) 0#32).toNat % 256, _⟩) = x3 (ix2 0 ⟨(IntOp.shrsi ArithUnit.vector (x2 (ix2 3 c)) 0#32).toNat % 256, _⟩)
  refine congrArg (fun q => x3 (ix2 0 q)) (Fin.ext ?_)
  show (IntOp.shrsi ArithUnit.vector (wordRow x2 3 i k (ix2 0 l)) 0#32).toNat % 256 = _
  rw [wordRow_apply x2 _ i k l c hi hc]

end Cert.KernelIdeal.Own

end
-- ==== Proof.KernelIdealTrip.lean ====
/- What the decoding loop stores: the three parts of every column of the decoded codebooks, and the norms. -/
module

public import proofs.«01_k».proof.Proof.KernelIdealGather
public import Idealize.ShloMosaic.Lib.Pointwise
public import Idealize.ShloMosaic.Lib.ValueIdx
public import Idealize.ShloMosaic.Lib.WritesUnit
public import Idealize.ShloMosaic.Lib.Pipeline.ReadBack
public import Idealize.ShloMosaic.Lib.Ring

@[expose] public section

-- membership in a rectangle of production extents (`View.cover_of_tiled`): the elaborator's structural look
-- recurses once per coordinate of the long axes
set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The three stored parts of a column -/

/-- What is left of a scaled entry after its leading part: nothing, where the entry is a number. -/
def midW (x1 : Vec Ideal S12x200x256 .bf16) (x2 : Vec Ideal S4x4992 .i32) (r : Fin 200) (c : Fin 4992) : EReal :=
  hiW x1 x2 r c - hiW x1 x2 r c

/-- What is left after the second part. -/
def loW (x1 : Vec Ideal S12x200x256 .bf16) (x2 : Vec Ideal S4x4992 .i32) (r : Fin 200) (c : Fin 4992) : EReal :=
  midW x1 x2 r c - midW x1 x2 r c

theorem hi_even (i : grid0.Coords) (arg2 : Memref sig .tc .vmem S12x200x256 .bf16) (harg2 : arg2.IsWhole) (arg3 : Memref sig .tc .vmem S4x4992 .i32) (harg3 : arg3.IsWhole) (arg4 : Memref sig .tc .vmem S1x256 .f32) (harg4 : arg4.IsWhole) (k0_h3 : k0_cond3 i = 1#1) (X_arg2 : BufTy.Contents (Elt Ideal) arg2.view.ty) (X_arg3 : BufTy.Contents (Elt Ideal) arg3.view.ty) (X_arg4 : BufTy.Contents (Elt Ideal) arg4.view.ty) (k : Fin k0_t1_loop.trips) (r : Fin 100) (l : Fin 128) (c : Fin 4992) (hi : (i 0).val < 3) (hc : c.val = 1664 * (i 0).val + 128 * k.val + l.val) :
    k0_pay170 (F := Ideal) (trip_k0_t1.sl.r_97 i arg2 arg3 k0_h3 X_arg2 X_arg3 k) (ix2 r l) = hiW (arg2.view.read (Elt Ideal) X_arg2) (arg3.view.read (Elt Ideal) X_arg3) ⟨2 * r.val, by omega⟩ c := by
  pointwise [k0_pay170]
  exact congrArg (Ideal.ofBits FTy.f32 3221225472#32 * ·) (acc_even i arg2 harg2 arg3 harg3 arg4 harg4 k0_h3 X_arg2 X_arg3 X_arg4 k r l c hi hc)

theorem mid_even (i : grid0.Coords) (arg2 : Memref sig .tc .vmem S12x200x256 .bf16) (harg2 : arg2.IsWhole) (arg3 : Memref sig .tc .vmem S4x4992 .i32) (harg3 : arg3.IsWhole) (arg4 : Memref sig .tc .vmem S1x256 .f32) (harg4 : arg4.IsWhole) (k0_h3 : k0_cond3 i = 1#1) (X_arg2 : BufTy.Contents (Elt Ideal) arg2.view.ty) (X_arg3 : BufTy.Contents (Elt Ideal) arg3.view.ty) (X_arg4 : BufTy.Contents (Elt Ideal) arg4.view.ty) (k : Fin k0_t1_loop.trips) (r : Fin 100) (l : Fin 128) (c : Fin 4992) (hi : (i 0).val < 3) (hc : c.val = 1664 * (i 0).val + 128 * k.val + l.val) :
    k0_pay171 (F := Ideal) (trip_k0_t1.sl.r_97 i arg2 arg3 k0_h3 X_arg2 X_arg3 k) (ix2 r l) = midW (arg2.view.read (Elt Ideal) X_arg2) (arg3.view.read (Elt Ideal) X_arg3) ⟨2 * r.val, by omega⟩ c := by
  pointwise [k0_pay171]
  exact congrArg (fun z => z - z) (hi_even i arg2 harg2 arg3 harg3 arg4 harg4 k0_h3 X_arg2 X_arg3 X_arg4 k r l c hi hc)

theorem lo_even (i : grid0.Coords) (arg2 : Memref sig .tc .vmem S12x200x256 .bf16) (harg2 : arg2.IsWhole) (arg3 : Memref sig .tc .vmem S4x4992 .i32) (harg3 : arg3.IsWhole) (arg4 : Memref sig .tc .vmem S1x256 .f32) (harg4 : arg4.IsWhole) (k0_h3 : k0_cond3 i = 1#1) (X_arg2 : BufTy.Contents (Elt Ideal) arg2.view.ty) (X_arg3 : BufTy.Contents (Elt Ideal) arg3.view.ty) (X_arg4 : BufTy.Contents (Elt Ideal) arg4.view.ty) (k : Fin k0_t1_loop.trips) (r : Fin 100) (l : Fin 128) (c : Fin 4992) (hi : (i 0).val < 3) (hc : c.val = 1664 * (i 0).val + 128 * k.val + l.val) :
    k0_pay172 (F := Ideal) (trip_k0_t1.sl.r_97 i arg2 arg3 k0_h3 X_arg2 X_arg3 k) (ix2 r l) = loW (arg2.view.read (Elt Ideal) X_arg2) (arg3.view.read (Elt Ideal) X_arg3) ⟨2 * r.val, by omega⟩ c := by
  pointwise [k0_pay172]
  exact congrArg (fun z => z - z) (mid_even i arg2 harg2 arg3 harg3 arg4 harg4 k0_h3 X_arg2 X_arg3 X_arg4 k r l c hi hc)

theorem mid_odd (i : grid0.Coords) (arg2 : Memref sig .tc .vmem S12x200x256 .bf16) (harg2 : arg2.IsWhole) (arg3 : Memref sig .tc .vmem S4x4992 .i32) (harg3 : arg3.IsWhole) (arg4 : Memref sig .tc .vmem S1x256 .f32) (harg4 : arg4.IsWhole) (k0_h3 : k0_cond3 i = 1#1) (X_arg2 : BufTy.Contents (Elt Ideal) arg2.view.ty) (X_arg3 : BufTy.Contents (Elt Ideal) arg3.view.ty) (X_arg4 : BufTy.Contents (Elt Ideal) arg4.view.ty) (k : Fin k0_t1_loop.trips) (r : Fin 100) (l : Fin 128) (c : Fin 4992) (hi : (i 0).val < 3) (hc : c.val = 1664 * (i 0).val + 128 * k.val + l.val) :
    k0_pay174 (F := Ideal) (trip_k0_t1.sl.r_93 i arg2 arg3 k0_h3 X_arg2 X_arg3 k) (trip_k0_t1.sl.r_98 arg2 X_arg2) (trip_k0_t1.sl.r_99 arg2 X_arg2) (trip_k0_t1.sl.r_100 i arg3 k0_h3 X_arg3 k) (trip_k0_t1.sl.r_101 i arg3 k0_h3 X_arg3 k) (trip_k0_t1.sl.r_102 i arg3 k0_h3 X_arg3 k) (ix2 r l) = midW (arg2.view.read (Elt Ideal) X_arg2) (arg3.view.read (Elt Ideal) X_arg3) ⟨2 * r.val + 1, by omega⟩ c := by
  pointwise [k0_pay174]
  exact congrArg (fun z => z - z) (acc_odd i arg2 harg2 arg3 harg3 arg4 harg4 k0_h3 X_arg2 X_arg3 X_arg4 k r l c hi hc)

theorem lo_odd (i : grid0.Coords) (arg2 : Memref sig .tc .vmem S12x200x256 .bf16) (harg2 : arg2.IsWhole) (arg3 : Memref sig .tc .vmem S4x4992 .i32) (harg3 : arg3.IsWhole) (arg4 : Memref sig .tc .vmem S1x256 .f32) (harg4 : arg4.IsWhole) (k0_h3 : k0_cond3 i = 1#1) (X_arg2 : BufTy.Contents (Elt Ideal) arg2.view.ty) (X_arg3 : BufTy.Contents (Elt Ideal) arg3.view.ty) (X_arg4 : BufTy.Contents (Elt Ideal) arg4.view.ty) (k : Fin k0_t1_loop.trips) (r : Fin 100) (l : Fin 128) (c : Fin 4992) (hi : (i 0).val < 3) (hc : c.val = 1664 * (i 0).val + 128 * k.val + l.val) :
    k0_pay175 (F := Ideal) (trip_k0_t1.sl.r_93 i arg2 arg3 k0_h3 X_arg2 X_arg3 k) (trip_k0_t1.sl.r_98 arg2 X_arg2) (trip_k0_t1.sl.r_99 arg2 X_arg2) (trip_k0_t1.sl.r_100 i arg3 k0_h3 X_arg3 k) (trip_k0_t1.sl.r_101 i arg3 k0_h3 X_arg3 k) (trip_k0_t1.sl.r_102 i arg3 k0_h3 X_arg3 k) (ix2 r l) = loW (arg2.view.read (Elt Ideal) X_arg2) (arg3.view.read (Elt Ideal) X_arg3) ⟨2 * r.val + 1, by omega⟩ c := by
  pointwise [k0_pay175]
  exact congrArg (fun z => z - z) (mid_odd i arg2 harg2 arg3 harg3 arg4 harg4 k0_h3 X_arg2 X_arg3 X_arg4 k r l c hi hc)

theorem hi_apply (i : grid0.Coords) (arg2 : Memref sig .tc .vmem S12x200x256 .bf16) (harg2 : arg2.IsWhole) (arg3 : Memref sig .tc .vmem S4x4992 .i32) (harg3 : arg3.IsWhole) (arg4 : Memref sig .tc .vmem S1x256 .f32) (harg4 : arg4.IsWhole) (k0_h3 : k0_cond3 i = 1#1) (X_arg2 : BufTy.Contents (Elt Ideal) arg2.view.ty) (X_arg3 : BufTy.Contents (Elt Ideal) arg3.view.ty) (X_arg4 : BufTy.Contents (Elt Ideal) arg4.view.ty) (k : Fin k0_t1_loop.trips) (rho : Fin 200) (l : Fin 128) (c : Fin 4992) (hi : (i 0).val < 3) (hc : c.val = 1664 * (i 0).val + 128 * k.val + l.val) :
    k0_pay176 (F := Ideal) (trip_k0_t1.sl.r_93 i arg2 arg3 k0_h3 X_arg2 X_arg3 k) (trip_k0_t1.sl.r_97 i arg2 arg3 k0_h3 X_arg2 X_arg3 k) (trip_k0_t1.sl.r_98 arg2 X_arg2) (trip_k0_t1.sl.r_99 arg2 X_arg2) (trip_k0_t1.sl.r_100 i arg3 k0_h3 X_arg3 k) (trip_k0_t1.sl.r_101 i arg3 k0_h3 X_arg3 k) (trip_k0_t1.sl.r_102 i arg3 k0_h3 X_arg3 k) (ix2 rho l) = hiW (arg2.view.read (Elt Ideal) X_arg2) (arg3.view.read (Elt Ideal) X_arg3) rho c := by
  pointwise [k0_pay176]
  by_cases hp : rho.val % 2 = 0
  · rw [if_pos hp]
    refine (hi_even i arg2 harg2 arg3 harg3 arg4 harg4 k0_h3 X_arg2 X_arg3 X_arg4 k ⟨rho.val / 2, by omega⟩ l c hi hc).trans ?_
    exact congrArg (fun r => hiW (arg2.view.read (Elt Ideal) X_arg2) (arg3.view.read (Elt Ideal) X_arg3) r c) (Fin.ext (show 2 * (rho.val / 2) = rho.val by omega))
  · rw [if_neg hp]
    refine (acc_odd i arg2 harg2 arg3 harg3 arg4 harg4 k0_h3 X_arg2 X_arg3 X_arg4 k ⟨rho.val / 2, by omega⟩ l c hi hc).trans ?_
    exact congrArg (fun r => hiW (arg2.view.read (Elt Ideal) X_arg2) (arg3.view.read (Elt Ideal) X_arg3) r c) (Fin.ext (show 2 * (rho.val / 2) + 1 = rho.val by omega))

theorem mid_apply (i : grid0.Coords) (arg2 : Memref sig .tc .vmem S12x200x256 .bf16) (harg2 : arg2.IsWhole) (arg3 : Memref sig .tc .vmem S4x4992 .i32) (harg3 : arg3.IsWhole) (arg4 : Memref sig .tc .vmem S1x256 .f32) (harg4 : arg4.IsWhole) (k0_h3 : k0_cond3 i = 1#1) (X_arg2 : BufTy.Contents (Elt Ideal) arg2.view.ty) (X_arg3 : BufTy.Contents (Elt Ideal) arg3.view.ty) (X_arg4 : BufTy.Contents (Elt Ideal) arg4.view.ty) (k : Fin k0_t1_loop.trips) (rho : Fin 200) (l : Fin 128) (c : Fin 4992) (hi : (i 0).val < 3) (hc : c.val = 1664 * (i 0).val + 128 * k.val + l.val) :
    k0_pay177 (F := Ideal) (trip_k0_t1.sl.r_93 i arg2 arg3 k0_h3 X_arg2 X_arg3 k) (trip_k0_t1.sl.r_97 i arg2 arg3 k0_h3 X_arg2 X_arg3 k) (trip_k0_t1.sl.r_98 arg2 X_arg2) (trip_k0_t1.sl.r_99 arg2 X_arg2) (trip_k0_t1.sl.r_100 i arg3 k0_h3 X_arg3 k) (trip_k0_t1.sl.r_101 i arg3 k0_h3 X_arg3 k) (trip_k0_t1.sl.r_102 i arg3 k0_h3 X_arg3 k) (ix2 rho l) = midW (arg2.view.read (Elt Ideal) X_arg2) (arg3.view.read (Elt Ideal) X_arg3) rho c := by
  pointwise [k0_pay177]
  by_cases hp : rho.val % 2 = 0
  · rw [if_pos hp]
    refine (mid_even i arg2 harg2 arg3 harg3 arg4 harg4 k0_h3 X_arg2 X_arg3 X_arg4 k ⟨rho.val / 2, by omega⟩ l c hi hc).trans ?_
    exact congrArg (fun r => midW (arg2.view.read (Elt Ideal) X_arg2) (arg3.view.read (Elt Ideal) X_arg3) r c) (Fin.ext (show 2 * (rho.val / 2) = rho.val by omega))
  · rw [if_neg hp]
    refine (mid_odd i arg2 harg2 arg3 harg3 arg4 harg4 k0_h3 X_arg2 X_arg3 X_arg4 k ⟨rho.val / 2, by omega⟩ l c hi hc).trans ?_
    exact congrArg (fun r => midW (arg2.view.read (Elt Ideal) X_arg2) (arg3.view.read (Elt Ideal) X_arg3) r c) (Fin.ext (show 2 * (rho.val / 2) + 1 = rho.val by omega))

theorem lo_apply (i : grid0.Coords) (arg2 : Memref sig .tc .vmem S12x200x256 .bf16) (harg2 : arg2.IsWhole) (arg3 : Memref sig .tc .vmem S4x4992 .i32) (harg3 : arg3.IsWhole) (arg4 : Memref sig .tc .vmem S1x256 .f32) (harg4 : arg4.IsWhole) (k0_h3 : k0_cond3 i = 1#1) (X_arg2 : BufTy.Contents (Elt Ideal) arg2.view.ty) (X_arg3 : BufTy.Contents (Elt Ideal) arg3.view.ty) (X_arg4 : BufTy.Contents (Elt Ideal) arg4.view.ty) (k : Fin k0_t1_loop.trips) (rho : Fin 200) (l : Fin 128) (c : Fin 4992) (hi : (i 0).val < 3) (hc : c.val = 1664 * (i 0).val + 128 * k.val + l.val) :
    k0_pay178 (F := Ideal) (trip_k0_t1.sl.r_103 i arg2 arg3 k0_h3 X_arg2 X_arg3 k) (trip_k0_t1.sl.r_104 i arg2 arg3 k0_h3 X_arg2 X_arg3 k) (ix2 rho l) = loW (arg2.view.read (Elt Ideal) X_arg2) (arg3.view.read (Elt Ideal) X_arg3) rho c := by
  pointwise [k0_pay178]
  by_cases hp : rho.val % 2 = 0
  · rw [if_pos hp]
    refine (lo_even i arg2 harg2 arg3 harg3 arg4 harg4 k0_h3 X_arg2 X_arg3 X_arg4 k ⟨rho.val / 2, by omega⟩ l c hi hc).trans ?_
    exact congrArg (fun r => loW (arg2.view.read (Elt Ideal) X_arg2) (arg3.view.read (Elt Ideal) X_arg3) r c) (Fin.ext (show 2 * (rho.val / 2) = rho.val by omega))
  · rw [if_neg hp]
    refine (lo_odd i arg2 harg2 arg3 harg3 arg4 harg4 k0_h3 X_arg2 X_arg3 X_arg4 k ⟨rho.val / 2, by omega⟩ l c hi hc).trans ?_
    exact congrArg (fun r => loW (arg2.view.read (Elt Ideal) X_arg2) (arg3.view.read (Elt Ideal) X_arg3) r c) (Fin.ext (show 2 * (rho.val / 2) + 1 = rho.val by omega))

/-! ## The decoded codebooks in full, and what one point stores of them -/

/-- The decoded codebooks: three parts of 256 rows, the first 200 of each filled. -/
def wFull (x1 : Vec Ideal S12x200x256 .bf16) (x2 : Vec Ideal S4x4992 .i32) : Vec Ideal S768x5120 .bf16 := fun j =>
  if h : (j 0).val % 256 < 200 ∧ (j 1).val < 4992 then
    if (j 0).val < 256 then hiW x1 x2 ⟨(j 0).val % 256, h.1⟩ ⟨(j 1).val, h.2⟩
    else if (j 0).val < 512 then midW x1 x2 ⟨(j 0).val % 256, h.1⟩ ⟨(j 1).val, h.2⟩
    else loW x1 x2 ⟨(j 0).val % 256, h.1⟩ ⟨(j 1).val, h.2⟩
  else 0

/-- The norms of all columns, on eight equal rows. -/
def nFull (x2 : Vec Ideal S4x4992 .i32) (x3 : Vec Ideal S1x256 .f32) : Vec Ideal S8x4992 .f32 := fun j => nrmW x2 x3 (j 1)

/-- The decoded codebooks' scratch after one point: its 1664 columns filled, the rest as before. -/
def wPut (s9 : Vec Ideal S768x5120 .bf16) (i : grid0.Coords) (x1 : Vec Ideal S12x200x256 .bf16) (x2 : Vec Ideal S4x4992 .i32) :
    Vec Ideal S768x5120 .bf16 := fun j =>
  if (j 0).val % 256 < 200 ∧ 1664 * (i 0).val ≤ (j 1).val ∧ (j 1).val < 1664 * (i 0).val + 1664 then wFull x1 x2 j else s9 j

/-- The norms' scratch after one point. -/
def nPut (s10 : Vec Ideal S8x4992 .f32) (i : grid0.Coords) (x2 : Vec Ideal S4x4992 .i32) (x3 : Vec Ideal S1x256 .f32) :
    Vec Ideal S8x4992 .f32 := fun j =>
  if 1664 * (i 0).val ≤ (j 1).val ∧ (j 1).val < 1664 * (i 0).val + 1664 then nFull x2 x3 j else s10 j

/-- `wFull` at an entry of its part `p`. -/
theorem wFull_at (x1 : Vec Ideal S12x200x256 .bf16) (x2 : Vec Ideal S4x4992 .i32) (j : S768x5120.Idx) (r : Fin 200) (c : Fin 4992)
    (hc : (j 1).val = c.val) :
    ((j 0).val = r.val → wFull x1 x2 j = hiW x1 x2 r c) ∧ ((j 0).val = 256 + r.val → wFull x1 x2 j = midW x1 x2 r c)
      ∧ ((j 0).val = 512 + r.val → wFull x1 x2 j = loW x1 x2 r c) := by
  have hcl : (j 1).val < 4992 := by omega
  have ec : ∀ h, (⟨(j 1).val, h⟩ : Fin 4992) = c := fun h => Fin.ext hc
  refine ⟨fun h0 => ?_, fun h0 => ?_, fun h0 => ?_⟩
  all_goals
    have hr : (j 0).val % 256 < 200 := by omega
    have er : (⟨(j 0).val % 256, hr⟩ : Fin 200) = r := Fin.ext (by show (j 0).val % 256 = r.val; omega)
    unfold wFull
    rw [dif_pos ⟨hr, hcl⟩, er, ec]
  · rw [if_pos (show (j 0).val < 256 by omega)]
  · rw [if_neg (show ¬ (j 0).val < 256 by omega), if_pos (show (j 0).val < 512 by omega)]
  · rw [if_neg (show ¬ (j 0).val < 256 by omega), if_neg (show ¬ (j 0).val < 512 by omega)]

/-- A store of 200 rows of 128 columns agrees with `wFull` where its entries do. -/
theorem w_piece (x1 : Vec Ideal S12x200x256 .bf16) (x2 : Vec Ideal S4x4992 .i32) (P : Vec Ideal S200x128 .bf16) (g : Fin 200 → Fin 4992 → EReal)
    (o col : ℕ) (hcol : col + 128 ≤ 4992) (hP : ∀ (rho : Fin 200) (l : Fin 128) (c : Fin 4992), c.val = col + l.val → P (ix2 rho l) = g rho c)
    (hg : ∀ (j : S768x5120.Idx) (r : Fin 200) (c : Fin 4992), (j 1).val = c.val → (j 0).val = o + r.val → wFull x1 x2 j = g r c)
    (off : Fin 2 → ℕ) (e : off = ![o, col]) (inb : ∀ a, off a + S200x128.size a ≤ S768x5120.size a) (x : S200x128.Idx) :
    P x = wFull x1 x2 ((Rect.unit (s := S768x5120) off S200x128.size inb).emb x) := by
  subst e
  have h0 : (x 0).val < 200 := (x 0).isLt
  have h1 : (x 1).val < 128 := (x 1).isLt
  refine (congrArg P (eq_ix2 x)).trans ?_
  refine (hP (x 0) (x 1) ⟨col + (x 1).val, by omega⟩ rfl).trans (hg _ _ _ ?_ ?_).symm
  · show col + 1 * (x 1).val = col + (x 1).val; omega
  · show o + 1 * (x 0).val = o + (x 0).val; omega

/-- The columns and rows one such store covers. -/
theorem w_mem (off : Fin 2 → ℕ) (o col : ℕ) (e : off = ![o, col]) (inb : ∀ a, off a + S200x128.size a ≤ S768x5120.size a) (y : S768x5120.Idx) :
    y ∈ (Rect.unit (s := S768x5120) off S200x128.size inb).set ↔ (o ≤ (y 0).val ∧ (y 0).val < o + 200) ∧ col ≤ (y 1).val ∧ (y 1).val < col + 128 := by
  subst e
  rw [Rect.mem_set_unit]
  constructor
  · intro h; exact ⟨h 0, h 1⟩
  · rintro ⟨h0, h1⟩ a
    fin_cases a
    · exact h0
    · exact h1

/-- The columns one store of norms covers. -/
theorem n_mem (off : Fin 2 → ℕ) (col : ℕ) (e : off = ![0, col]) (inb : ∀ a, off a + S8x128.size a ≤ S8x4992.size a) (y : S8x4992.Idx) :
    y ∈ (Rect.unit (s := S8x4992) off S8x128.size inb).set ↔ col ≤ (y 1).val ∧ (y 1).val < col + 128 := by
  subst e
  have h8 : (y 0).val < 8 := (y 0).isLt
  rw [Rect.mem_set_unit]
  constructor
  · intro h; exact h 1
  · intro h1 a
    fin_cases a
    · show 0 ≤ (y 0).val ∧ (y 0).val < 0 + 8; omega
    · exact h1

/-- The pieces one trip stores. -/
theorem trip_lists (𝒱 : Variants) (c : Dev nD) (bd : Option 𝒱.V) (i : grid0.Coords) (arg1 : Memref sig .tc .vmem S200x256 .bf16) (harg1 : arg1.IsWhole) (arg2 : Memref sig .tc .vmem S12x200x256 .bf16) (harg2 : arg2.IsWhole) (arg3 : Memref sig .tc .vmem S4x4992 .i32) (harg3 : arg3.IsWhole) (arg4 : Memref sig .tc .vmem S1x256 .f32) (harg4 : arg4.IsWhole) (arg5 : Memref sig .tc .vmem S256x4992 .f32) (harg5 : arg5.IsWhole) (arg6 : Memref sig .tc .vmem S12x256x256 .f32) (harg6 : arg6.IsWhole) (arg7 : Memref sig .tc .vmem S24x256x768 .bf16) (harg7 : arg7.IsWhole) (arg8 : Memref sig .tc .vmem S12x256x256 .bf16) (harg8 : arg8.IsWhole) (arg9 : Memref sig .tc .vmem S768x5120 .bf16) (harg9 : arg9.IsWhole) (arg10 : Memref sig .tc .vmem S8x4992 .f32) (harg10 : arg10.IsWhole) (arg0 : BitVec 32) (k0_h3 : k0_cond3 i = 1#1) (X_arg2 : BufTy.Contents (Elt Ideal) arg2.view.ty) (X_arg3 : BufTy.Contents (Elt Ideal) arg3.view.ty) (X_arg4 : BufTy.Contents (Elt Ideal) arg4.view.ty) (k : Fin k0_t1_loop.trips) :
    tripL_k0_t1 (F := Ideal) 𝒱 c bd i arg1 harg1 arg2 harg2 arg3 harg3 arg4 harg4 arg5 harg5 arg6 harg6 arg7 harg7 arg8 harg8 arg9 harg9 arg10 harg10 arg0 k0_h3 X_arg2 X_arg3 X_arg4 k
      = ([⟨Rect.unit (k0_off9 i k) S200x128.size (k0_off9_inb i k k0_h3), k0_pay178 (trip_k0_t1.sl.r_103 i arg2 arg3 k0_h3 X_arg2 X_arg3 k) (trip_k0_t1.sl.r_104 i arg2 arg3 k0_h3 X_arg2 X_arg3 k)⟩,
          ⟨Rect.unit (k0_off8 i k) S200x128.size (k0_off8_inb i k k0_h3), k0_pay177 (trip_k0_t1.sl.r_93 i arg2 arg3 k0_h3 X_arg2 X_arg3 k) (trip_k0_t1.sl.r_97 i arg2 arg3 k0_h3 X_arg2 X_arg3 k) (trip_k0_t1.sl.r_98 arg2 X_arg2) (trip_k0_t1.sl.r_99 arg2 X_arg2) (trip_k0_t1.sl.r_100 i arg3 k0_h3 X_arg3 k) (trip_k0_t1.sl.r_101 i arg3 k0_h3 X_arg3 k) (trip_k0_t1.sl.r_102 i arg3 k0_h3 X_arg3 k)⟩,
          ⟨Rect.unit (k0_off7 i k) S200x128.size (k0_off7_inb i k k0_h3), k0_pay176 (trip_k0_t1.sl.r_93 i arg2 arg3 k0_h3 X_arg2 X_arg3 k) (trip_k0_t1.sl.r_97 i arg2 arg3 k0_h3 X_arg2 X_arg3 k) (trip_k0_t1.sl.r_98 arg2 X_arg2) (trip_k0_t1.sl.r_99 arg2 X_arg2) (trip_k0_t1.sl.r_100 i arg3 k0_h3 X_arg3 k) (trip_k0_t1.sl.r_101 i arg3 k0_h3 X_arg3 k) (trip_k0_t1.sl.r_102 i arg3 k0_h3 X_arg3 k)⟩],
         [⟨Rect.unit (k0_off11 i k) S8x128.size (k0_off11_inb i k k0_h3), k0_pay7 (trip_k0_t1.sl.r_105 arg4 X_arg4) (trip_k0_t1.sl.r_106 i arg3 k0_h3 X_arg3 k) (trip_k0_t1.sl.r_107 i arg3 arg4 k0_h3 X_arg3 X_arg4 k) (trip_k0_t1.sl.r_108 i arg3 k0_h3 X_arg3 k)⟩]) := by
  unfold tripL_k0_t1 trip_k0_t1
  rfl

/-- One trip's pieces agree with the full contents, and cover exactly its columns. -/
theorem trip_spec (𝒱 : Variants) (c : Dev nD) (bd : Option 𝒱.V) (i : grid0.Coords) (arg1 : Memref sig .tc .vmem S200x256 .bf16) (harg1 : arg1.IsWhole) (arg2 : Memref sig .tc .vmem S12x200x256 .bf16) (harg2 : arg2.IsWhole) (arg3 : Memref sig .tc .vmem S4x4992 .i32) (harg3 : arg3.IsWhole) (arg4 : Memref sig .tc .vmem S1x256 .f32) (harg4 : arg4.IsWhole) (arg5 : Memref sig .tc .vmem S256x4992 .f32) (harg5 : arg5.IsWhole) (arg6 : Memref sig .tc .vmem S12x256x256 .f32) (harg6 : arg6.IsWhole) (arg7 : Memref sig .tc .vmem S24x256x768 .bf16) (harg7 : arg7.IsWhole) (arg8 : Memref sig .tc .vmem S12x256x256 .bf16) (harg8 : arg8.IsWhole) (arg9 : Memref sig .tc .vmem S768x5120 .bf16) (harg9 : arg9.IsWhole) (arg10 : Memref sig .tc .vmem S8x4992 .f32) (harg10 : arg10.IsWhole) (arg0 : BitVec 32) (k0_h3 : k0_cond3 i = 1#1) (X_arg2 : BufTy.Contents (Elt Ideal) arg2.view.ty) (X_arg3 : BufTy.Contents (Elt Ideal) arg3.view.ty) (X_arg4 : BufTy.Contents (Elt Ideal) arg4.view.ty) (k : Fin k0_t1_loop.trips) (hi : (i 0).val < 3) :
    (View.PiecesOf (wFull (arg2.view.read (Elt Ideal) X_arg2) (arg3.view.read (Elt Ideal) X_arg3)) (tripL_k0_t1 (F := Ideal) 𝒱 c bd i arg1 harg1 arg2 harg2 arg3 harg3 arg4 harg4 arg5 harg5 arg6 harg6 arg7 harg7 arg8 harg8 arg9 harg9 arg10 harg10 arg0 k0_h3 X_arg2 X_arg3 X_arg4 k).1
      ∧ View.PiecesOf (nFull (arg3.view.read (Elt Ideal) X_arg3) (arg4.view.read (Elt Ideal) X_arg4)) (tripL_k0_t1 (F := Ideal) 𝒱 c bd i arg1 harg1 arg2 harg2 arg3 harg3 arg4 harg4 arg5 harg5 arg6 harg6 arg7 harg7 arg8 harg8 arg9 harg9 arg10 harg10 arg0 k0_h3 X_arg2 X_arg3 X_arg4 k).2)
    ∧ (∀ y : S768x5120.Idx, (∃ p ∈ (tripL_k0_t1 (F := Ideal) 𝒱 c bd i arg1 harg1 arg2 harg2 arg3 harg3 arg4 harg4 arg5 harg5 arg6 harg6 arg7 harg7 arg8 harg8 arg9 harg9 arg10 harg10 arg0 k0_h3 X_arg2 X_arg3 X_arg4 k).1, y ∈ p.1.set) ↔ (y 0).val % 256 < 200 ∧ 1664 * (i 0).val + 128 * k.val ≤ (y 1).val ∧ (y 1).val < 1664 * (i 0).val + 128 * k.val + 128)
    ∧ (∀ y : S8x4992.Idx, (∃ p ∈ (tripL_k0_t1 (F := Ideal) 𝒱 c bd i arg1 harg1 arg2 harg2 arg3 harg3 arg4 harg4 arg5 harg5 arg6 harg6 arg7 harg7 arg8 harg8 arg9 harg9 arg10 harg10 arg0 k0_h3 X_arg2 X_arg3 X_arg4 k).2, y ∈ p.1.set) ↔ 1664 * (i 0).val + 128 * k.val ≤ (y 1).val ∧ (y 1).val < 1664 * (i 0).val + 128 * k.val + 128) := by
  have hk : k.val < 13 := k.isLt
  rw [trip_lists]
  refine ⟨⟨⟨?_, ?_, ?_, trivial⟩, ⟨?_, trivial⟩⟩, fun y => ?_, fun y => ?_⟩
  · exact fun x => w_piece _ _ _ (loW (arg2.view.read (Elt Ideal) X_arg2) (arg3.view.read (Elt Ideal) X_arg3)) 512 (1664 * (i 0).val + 128 * k.val) (by omega)
      (fun rho l c' hc => lo_apply i arg2 harg2 arg3 harg3 arg4 harg4 k0_h3 X_arg2 X_arg3 X_arg4 k rho l c' hi hc)
      (fun j r c' h1 h0 => (wFull_at _ _ j r c' h1).2.2 h0) _ (k0_off9_eq i k) (k0_off9_inb i k k0_h3) x
  · exact fun x => w_piece _ _ _ (midW (arg2.view.read (Elt Ideal) X_arg2) (arg3.view.read (Elt Ideal) X_arg3)) 256 (1664 * (i 0).val + 128 * k.val) (by omega)
      (fun rho l c' hc => mid_apply i arg2 harg2 arg3 harg3 arg4 harg4 k0_h3 X_arg2 X_arg3 X_arg4 k rho l c' hi hc)
      (fun j r c' h1 h0 => (wFull_at _ _ j r c' h1).2.1 h0) _ (k0_off8_eq i k) (k0_off8_inb i k k0_h3) x
  · exact fun x => w_piece _ _ _ (hiW (arg2.view.read (Elt Ideal) X_arg2) (arg3.view.read (Elt Ideal) X_arg3)) 0 (1664 * (i 0).val + 128 * k.val) (by omega)
      (fun rho l c' hc => hi_apply i arg2 harg2 arg3 harg3 arg4 harg4 k0_h3 X_arg2 X_arg3 X_arg4 k rho l c' hi hc)
      (fun j r c' h1 h0 => (wFull_at _ _ j r c' h1).1 (by omega)) _ (k0_off7_eq i k) (k0_off7_inb i k k0_h3) x
  · intro x
    have h1 : (x 1).val < 128 := (x 1).isLt
    refine (congrArg (k0_pay7 (F := Ideal) (trip_k0_t1.sl.r_105 arg4 X_arg4) (trip_k0_t1.sl.r_106 i arg3 k0_h3 X_arg3 k) (trip_k0_t1.sl.r_107 i arg3 arg4 k0_h3 X_arg3 X_arg4 k) (trip_k0_t1.sl.r_108 i arg3 k0_h3 X_arg3 k)) (eq_ix2 (show S8x128.Idx from x))).trans ?_
    refine (nrm_apply i arg2 harg2 arg3 harg3 arg4 harg4 k0_h3 X_arg2 X_arg3 X_arg4 k (x 0) (x 1) ⟨1664 * (i 0).val + 128 * k.val + (x 1).val, by omega⟩ hi rfl).trans ?_
    refine congrArg (nrmW (arg3.view.read (Elt Ideal) X_arg3) (arg4.view.read (Elt Ideal) X_arg4)) (Fin.ext ?_)
    show _ = k0_off11 i k 1 + 1 * (x 1).val
    rw [congrFun (k0_off11_eq i k) 1]
    show 1664 * (i 0).val + 128 * k.val + (x 1).val = 1664 * (i 0).val + 128 * k.val + 1 * (x 1).val
    omega
  · have hy : (y 0).val < 768 := (y 0).isLt
    simp only [List.exists_mem_cons_iff, List.not_mem_nil, _root_.false_and, exists_false, _root_.or_false]
    rw [w_mem _ _ _ (k0_off9_eq i k), w_mem _ _ _ (k0_off8_eq i k), w_mem _ _ _ (k0_off7_eq i k)]
    omega
  · simp only [List.exists_mem_cons_iff, List.not_mem_nil, _root_.false_and, exists_false, _root_.or_false]
    rw [n_mem _ _ (k0_off11_eq i k)]

/-- The same of the trips before `n` together. -/
theorem trips_spec (𝒱 : Variants) (c : Dev nD) (bd : Option 𝒱.V) (i : grid0.Coords) (arg1 : Memref sig .tc .vmem S200x256 .bf16) (harg1 : arg1.IsWhole) (arg2 : Memref sig .tc .vmem S12x200x256 .bf16) (harg2 : arg2.IsWhole) (arg3 : Memref sig .tc .vmem S4x4992 .i32) (harg3 : arg3.IsWhole) (arg4 : Memref sig .tc .vmem S1x256 .f32) (harg4 : arg4.IsWhole) (arg5 : Memref sig .tc .vmem S256x4992 .f32) (harg5 : arg5.IsWhole) (arg6 : Memref sig .tc .vmem S12x256x256 .f32) (harg6 : arg6.IsWhole) (arg7 : Memref sig .tc .vmem S24x256x768 .bf16) (harg7 : arg7.IsWhole) (arg8 : Memref sig .tc .vmem S12x256x256 .bf16) (harg8 : arg8.IsWhole) (arg9 : Memref sig .tc .vmem S768x5120 .bf16) (harg9 : arg9.IsWhole) (arg10 : Memref sig .tc .vmem S8x4992 .f32) (harg10 : arg10.IsWhole) (arg0 : BitVec 32) (k0_h3 : k0_cond3 i = 1#1) (X_arg2 : BufTy.Contents (Elt Ideal) arg2.view.ty) (X_arg3 : BufTy.Contents (Elt Ideal) arg3.view.ty) (X_arg4 : BufTy.Contents (Elt Ideal) arg4.view.ty) (hi : (i 0).val < 3) : ∀ n : ℕ, n ≤ 13 →
    ((∀ p ∈ (pb_k0_t1 (F := Ideal) 𝒱 c bd i arg1 harg1 arg2 harg2 arg3 harg3 arg4 harg4 arg5 harg5 arg6 harg6 arg7 harg7 arg8 harg8 arg9 harg9 arg10 harg10 arg0 k0_h3 X_arg2 X_arg3 X_arg4 n).1, ∀ x : p.1.shape.Idx, p.2 x = wFull (arg2.view.read (Elt Ideal) X_arg2) (arg3.view.read (Elt Ideal) X_arg3) (p.1.emb x))
      ∧ (∀ p ∈ (pb_k0_t1 (F := Ideal) 𝒱 c bd i arg1 harg1 arg2 harg2 arg3 harg3 arg4 harg4 arg5 harg5 arg6 harg6 arg7 harg7 arg8 harg8 arg9 harg9 arg10 harg10 arg0 k0_h3 X_arg2 X_arg3 X_arg4 n).2, ∀ x : p.1.shape.Idx, p.2 x = nFull (arg3.view.read (Elt Ideal) X_arg3) (arg4.view.read (Elt Ideal) X_arg4) (p.1.emb x)))
    ∧ (∀ y : S768x5120.Idx, (∃ p ∈ (pb_k0_t1 (F := Ideal) 𝒱 c bd i arg1 harg1 arg2 harg2 arg3 harg3 arg4 harg4 arg5 harg5 arg6 harg6 arg7 harg7 arg8 harg8 arg9 harg9 arg10 harg10 arg0 k0_h3 X_arg2 X_arg3 X_arg4 n).1, y ∈ p.1.set) ↔ (y 0).val % 256 < 200 ∧ 1664 * (i 0).val ≤ (y 1).val ∧ (y 1).val < 1664 * (i 0).val + 128 * n)
    ∧ (∀ y : S8x4992.Idx, (∃ p ∈ (pb_k0_t1 (F := Ideal) 𝒱 c bd i arg1 harg1 arg2 harg2 arg3 harg3 arg4 harg4 arg5 harg5 arg6 harg6 arg7 harg7 arg8 harg8 arg9 harg9 arg10 harg10 arg0 k0_h3 X_arg2 X_arg3 X_arg4 n).2, y ∈ p.1.set) ↔ 1664 * (i 0).val ≤ (y 1).val ∧ (y 1).val < 1664 * (i 0).val + 128 * n)
  | 0, _ => by
    rw [pb_k0_t1.eq_1]
    refine ⟨⟨fun p hp => (by cases hp), fun p hp => (by cases hp)⟩, fun y => ⟨fun h => ?_, fun h => ?_⟩, fun y => ⟨fun h => ?_, fun h => ?_⟩⟩
    · obtain ⟨p, hp, -⟩ := h; cases hp
    · omega
    · obtain ⟨p, hp, -⟩ := h; cases hp
    · omega
  | n + 1, hn => by
    obtain ⟨⟨ih1, ih2⟩, ih3, ih4⟩ := trips_spec 𝒱 c bd i arg1 harg1 arg2 harg2 arg3 harg3 arg4 harg4 arg5 harg5 arg6 harg6 arg7 harg7 arg8 harg8 arg9 harg9 arg10 harg10 arg0 k0_h3 X_arg2 X_arg3 X_arg4 hi n (by omega)
    obtain ⟨⟨t1, t2⟩, t3, t4⟩ := trip_spec 𝒱 c bd i arg1 harg1 arg2 harg2 arg3 harg3 arg4 harg4 arg5 harg5 arg6 harg6 arg7 harg7 arg8 harg8 arg9 harg9 arg10 harg10 arg0 k0_h3 X_arg2 X_arg3 X_arg4 ⟨n, (by omega : n < 13)⟩ hi
    have e := pb_k0_t1_succ (F := Ideal) 𝒱 c bd i arg1 harg1 arg2 harg2 arg3 harg3 arg4 harg4 arg5 harg5 arg6 harg6 arg7 harg7 arg8 harg8 arg9 harg9 arg10 harg10 arg0 k0_h3 X_arg2 X_arg3 X_arg4 ⟨n, (by omega : n < 13)⟩
    rw [show n + 1 = (⟨n, (by omega : n < 13)⟩ : Fin k0_t1_loop.trips).val + 1 from rfl, e]
    refine ⟨⟨fun p hp => ?_, fun p hp => ?_⟩, fun y => ?_, fun y => ?_⟩
    · rcases List.mem_append.1 hp with h | h
      · exact t1.mem p h
      · exact ih1 p h
    · rcases List.mem_append.1 hp with h | h
      · exact t2.mem p h
      · exact ih2 p h
    · have a := t3 y; have b := ih3 y
      constructor
      · rintro ⟨p, hp, hy⟩
        rcases List.mem_append.1 hp with h | h
        · have := a.1 ⟨p, h, hy⟩; dsimp only at this ⊢; omega
        · have := b.1 ⟨p, h, hy⟩; dsimp only at this ⊢; omega
      · intro h
        dsimp only at h a
        by_cases hs : (y 1).val < 1664 * (i 0).val + 128 * n
        · obtain ⟨p, hp, hy⟩ := b.2 (by omega); exact ⟨p, List.mem_append_right _ hp, hy⟩
        · obtain ⟨p, hp, hy⟩ := a.2 (by omega); exact ⟨p, List.mem_append_left _ hp, hy⟩
    · have a := t4 y; have b := ih4 y
      constructor
      · rintro ⟨p, hp, hy⟩
        rcases List.mem_append.1 hp with h | h
        · have := a.1 ⟨p, h, hy⟩; dsimp only at this ⊢; omega
        · have := b.1 ⟨p, h, hy⟩; dsimp only at this ⊢; omega
      · intro h
        dsimp only at h a
        by_cases hs : (y 1).val < 1664 * (i 0).val + 128 * n
        · obtain ⟨p, hp, hy⟩ := b.2 (by omega); exact ⟨p, List.mem_append_right _ hp, hy⟩
        · obtain ⟨p, hp, hy⟩ := a.2 (by omega); exact ⟨p, List.mem_append_left _ hp, hy⟩

/-- What the decoded codebooks' scratch holds after the loop. -/
theorem wPut_read (𝒱 : Variants) (c : Dev nD) (bd : Option 𝒱.V) (i : grid0.Coords) (arg1 : Memref sig .tc .vmem S200x256 .bf16) (harg1 : arg1.IsWhole) (arg2 : Memref sig .tc .vmem S12x200x256 .bf16) (harg2 : arg2.IsWhole) (arg3 : Memref sig .tc .vmem S4x4992 .i32) (harg3 : arg3.IsWhole) (arg4 : Memref sig .tc .vmem S1x256 .f32) (harg4 : arg4.IsWhole) (arg5 : Memref sig .tc .vmem S256x4992 .f32) (harg5 : arg5.IsWhole) (arg6 : Memref sig .tc .vmem S12x256x256 .f32) (harg6 : arg6.IsWhole) (arg7 : Memref sig .tc .vmem S24x256x768 .bf16) (harg7 : arg7.IsWhole) (arg8 : Memref sig .tc .vmem S12x256x256 .bf16) (harg8 : arg8.IsWhole) (arg9 : Memref sig .tc .vmem S768x5120 .bf16) (harg9 : arg9.IsWhole) (arg10 : Memref sig .tc .vmem S8x4992 .f32) (harg10 : arg10.IsWhole) (arg0 : BitVec 32) (k0_h3 : k0_cond3 i = 1#1) (X_arg2 : BufTy.Contents (Elt Ideal) arg2.view.ty) (X_arg3 : BufTy.Contents (Elt Ideal) arg3.view.ty) (X_arg4 : BufTy.Contents (Elt Ideal) arg4.view.ty) (hi : (i 0).val < 3) (f : BufTy.Contents (Elt Ideal) arg9.view.ty) :
    arg9.view.read (Elt Ideal) (arg9.view.writes (Elt Ideal) f (pb_k0_t1 (F := Ideal) 𝒱 c bd i arg1 harg1 arg2 harg2 arg3 harg3 arg4 harg4 arg5 harg5 arg6 harg6 arg7 harg7 arg8 harg8 arg9 harg9 arg10 harg10 arg0 k0_h3 X_arg2 X_arg3 X_arg4 13).1)
      = wPut (arg9.view.read (Elt Ideal) f) i (arg2.view.read (Elt Ideal) X_arg2) (arg3.view.read (Elt Ideal) X_arg3) := by
  obtain ⟨⟨h1, h2⟩, h3, h4⟩ := trips_spec 𝒱 c bd i arg1 harg1 arg2 harg2 arg3 harg3 arg4 harg4 arg5 harg5 arg6 harg6 arg7 harg7 arg8 harg8 arg9 harg9 arg10 harg10 arg0 k0_h3 X_arg2 X_arg3 X_arg4 hi 13 le_rfl
  funext y
  unfold wPut
  by_cases hy : (y 0).val % 256 < 200 ∧ 1664 * (i 0).val ≤ (y 1).val ∧ (y 1).val < 1664 * (i 0).val + 1664
  · rw [if_pos hy]
    exact View.read_writes_apply_of_pieces _ _ _ _ h1 y ((h3 y).2 (by omega))
  · rw [if_neg hy]
    exact View.read_writes_apply_of_forall_not_mem _ _ y _ fun p hp hm => hy (by have := (h3 y).1 ⟨p, hp, hm⟩; omega)

/-- What the norms' scratch holds after the loop. -/
theorem nPut_read (𝒱 : Variants) (c : Dev nD) (bd : Option 𝒱.V) (i : grid0.Coords) (arg1 : Memref sig .tc .vmem S200x256 .bf16) (harg1 : arg1.IsWhole) (arg2 : Memref sig .tc .vmem S12x200x256 .bf16) (harg2 : arg2.IsWhole) (arg3 : Memref sig .tc .vmem S4x4992 .i32) (harg3 : arg3.IsWhole) (arg4 : Memref sig .tc .vmem S1x256 .f32) (harg4 : arg4.IsWhole) (arg5 : Memref sig .tc .vmem S256x4992 .f32) (harg5 : arg5.IsWhole) (arg6 : Memref sig .tc .vmem S12x256x256 .f32) (harg6 : arg6.IsWhole) (arg7 : Memref sig .tc .vmem S24x256x768 .bf16) (harg7 : arg7.IsWhole) (arg8 : Memref sig .tc .vmem S12x256x256 .bf16) (harg8 : arg8.IsWhole) (arg9 : Memref sig .tc .vmem S768x5120 .bf16) (harg9 : arg9.IsWhole) (arg10 : Memref sig .tc .vmem S8x4992 .f32) (harg10 : arg10.IsWhole) (arg0 : BitVec 32) (k0_h3 : k0_cond3 i = 1#1) (X_arg2 : BufTy.Contents (Elt Ideal) arg2.view.ty) (X_arg3 : BufTy.Contents (Elt Ideal) arg3.view.ty) (X_arg4 : BufTy.Contents (Elt Ideal) arg4.view.ty) (hi : (i 0).val < 3) (f : BufTy.Contents (Elt Ideal) arg10.view.ty) :
    arg10.view.read (Elt Ideal) (arg10.view.writes (Elt Ideal) f (pb_k0_t1 (F := Ideal) 𝒱 c bd i arg1 harg1 arg2 harg2 arg3 harg3 arg4 harg4 arg5 harg5 arg6 harg6 arg7 harg7 arg8 harg8 arg9 harg9 arg10 harg10 arg0 k0_h3 X_arg2 X_arg3 X_arg4 13).2)
      = nPut (arg10.view.read (Elt Ideal) f) i (arg3.view.read (Elt Ideal) X_arg3) (arg4.view.read (Elt Ideal) X_arg4) := by
  obtain ⟨⟨h1, h2⟩, h3, h4⟩ := trips_spec 𝒱 c bd i arg1 harg1 arg2 harg2 arg3 harg3 arg4 harg4 arg5 harg5 arg6 harg6 arg7 harg7 arg8 harg8 arg9 harg9 arg10 harg10 arg0 k0_h3 X_arg2 X_arg3 X_arg4 hi 13 le_rfl
  funext y
  unfold nPut
  by_cases hy : 1664 * (i 0).val ≤ (y 1).val ∧ (y 1).val < 1664 * (i 0).val + 1664
  · rw [if_pos hy]
    exact View.read_writes_apply_of_pieces _ _ _ _ h2 y ((h4 y).2 (by omega))
  · rw [if_neg hy]
    exact View.read_writes_apply_of_forall_not_mem _ _ y _ fun p hp hm => hy (by have := (h4 y).1 ⟨p, hp, hm⟩; omega)

end Cert.KernelIdeal.Own

end
-- ==== Proof.KernelIdealValueB.lean ====
/- One grid point of the kernel in case B: its triple over the extended reals, with what it leaves in every buffer named. -/
module

public import proofs.«01_k».proof.Proof.KernelIdealTrip

@[expose] public section

-- membership in a rectangle of production extents (`View.cover_of_tiled`): the elaborator's structural look
-- recurses once per coordinate of the long axes
set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

-- (the run's proof term is large: checking it walks past the default budget)
set_option maxHeartbeats 1000000 in
/-- The body's triple IN CASE B (`scf.if` 0 not taken, `scf.if` 1 taken, `scf.if` 2 taken, `scf.if` 3 not taken: points 1, 2): on whole staging memrefs — the inputs' at their contents,
    the outputs' at any contents, the scratch at the contents named —
    the body runs to the continuation holding the inputs' as they were, the outputs and the scratch at the named results: the printed functions are their skeletons (`Gen.*_eq_skeleton`),
    which `sl_exec` runs (Lib/Exec.lean) — each `scf.if` decided by the case's hypotheses `hc·`. -/
theorem valueRun0_B (c : Dev nD) (i : grid0.Coords) (arg1 : Memref sig .tc .vmem S200x256 .bf16) (harg1 : arg1.IsWhole) (arg2 : Memref sig .tc .vmem S12x200x256 .bf16) (harg2 : arg2.IsWhole) (arg3 : Memref sig .tc .vmem S4x4992 .i32) (harg3 : arg3.IsWhole) (arg4 : Memref sig .tc .vmem S1x256 .f32) (harg4 : arg4.IsWhole) (arg5 : Memref sig .tc .vmem S256x4992 .f32) (harg5 : arg5.IsWhole) (arg6 : Memref sig .tc .vmem S12x256x256 .f32) (harg6 : arg6.IsWhole) (arg7 : Memref sig .tc .vmem S24x256x768 .bf16) (harg7 : arg7.IsWhole) (arg8 : Memref sig .tc .vmem S12x256x256 .bf16) (harg8 : arg8.IsWhole) (arg9 : Memref sig .tc .vmem S768x5120 .bf16) (harg9 : arg9.IsWhole) (arg10 : Memref sig .tc .vmem S8x4992 .f32) (harg10 : arg10.IsWhole) (hc0 : ¬cond0_0 i) (hc1 : cond0_1 i) (hc2 : cond0_2 i) (hc3 : ¬cond0_3 i) (hi3 : (i 0).val < 3)
    (x0 : Vec Ideal S200x256 .bf16) (x1 : Vec Ideal S12x200x256 .bf16) (x2 : Vec Ideal S4x4992 .i32) (x3 : Vec Ideal S1x256 .f32) (x4 : Vec Ideal S256x4992 .f32) (x5 : Vec Ideal S12x256x256 .f32) (s7 : Vec Ideal S24x256x768 .bf16) (s8 : Vec Ideal S12x256x256 .bf16) (s9 : Vec Ideal S768x5120 .bf16) (s10 : Vec Ideal S8x4992 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare s7 ∗ owns (c : Thread nD τ) arg8 fullShare s8 ∗ owns (c : Thread nD τ) arg9 fullShare s9 ∗ owns (c : Thread nD τ) arg10 fullShare s10
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (lutOf x0 s8) ∗ owns (c : Thread nD τ) arg7 fullShare (qPut s7 i x0) ∗ owns (c : Thread nD τ) arg8 fullShare s8 ∗ owns (c : Thread nD τ) arg9 fullShare (wPut s9 i x1 x2) ∗ owns (c : Thread nD τ) arg10 fullShare (nPut s10 i x2 x3)) -∗ K ⟨⟩))
          ⊢ wp frame (wpE (defs₀ (F := Ideal)) Variants.none c none) E (cc0_aq_adc i arg1 harg1 arg2 harg2 arg3 harg3 arg4 harg4 arg5 harg5 arg6 harg6 arg7 harg7 arg8 harg8 arg9 harg9 arg10 harg10) K := by
    intro E K
    simp only [cc0_aq_adc_eq_skeleton]; unfold cc0_aq_adc_skel
    simp only [k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hs0, HS0⟩, ⟨%fs1, %hs1, HS1⟩, ⟨%fs2, %hs2, HS2⟩, ⟨%fs3, %hs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hs0; obtain rfl := harg8.eq_unread hs1; obtain rfl := harg9.eq_unread hs2; obtain rfl := harg10.eq_unread hs3
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro; exact harg5.read_unread _
    isplitl [H5]
    · iexists _; isplitr; swap; · iexact H5
      ipureintro
      funext y
      sl_unfold_run_names
      refine View.read_writes_apply_of_pieces _ _ (lutOf x0 s8) _ (View.PiecesOf.mem ?_) y (View.cover_of_tiledBy _ ![1, 256, 256] (by sl_kernel_rfl) y)
      simp only [readAt_unread, View.ld_unit_zero (S := S200x256) zero2]
      refine ⟨?_, ?_, ?_, ?_, ?_, ?_, ?_, ?_, ?_, ?_, ?_, ?_, trivial⟩
      · exact fun x => lut_piece _ _ 11 inb_S12x256x256_S1x256x256_11_0_0 x
      · exact fun x => lut_piece _ _ 10 inb_S12x256x256_S1x256x256_10_0_0 x
      · exact fun x => lut_piece _ _ 9 inb_S12x256x256_S1x256x256_9_0_0 x
      · exact fun x => lut_piece _ _ 8 inb_S12x256x256_S1x256x256_8_0_0 x
      · exact fun x => lut_piece _ _ 7 inb_S12x256x256_S1x256x256_7_0_0 x
      · exact fun x => lut_piece _ _ 6 inb_S12x256x256_S1x256x256_6_0_0 x
      · exact fun x => lut_piece _ _ 5 inb_S12x256x256_S1x256x256_5_0_0 x
      · exact fun x => lut_piece _ _ 4 inb_S12x256x256_S1x256x256_4_0_0 x
      · exact fun x => lut_piece _ _ 3 inb_S12x256x256_S1x256x256_3_0_0 x
      · exact fun x => lut_piece _ _ 2 inb_S12x256x256_S1x256x256_2_0_0 x
      · exact fun x => lut_piece _ _ 1 inb_S12x256x256_S1x256x256_1_0_0 x
      · exact fun x => lut_piece _ _ 0 inb_S12x256x256_S1x256x256_0_0_0 x
    isplitl [HS0]
    · iexists _; isplitr; swap; · iexact HS0
      ipureintro
      sl_unfold_run_names
      simp only [readAt_unread, View.ld_unit_zero (S := S200x256) zero2]
      exact qPut_read harg7 s7 i x0 _ _ _
    isplitl [HS1]
    · iexists _; isplitr; swap; · iexact HS1
      ipureintro; exact harg8.read_unread _
    isplitl [HS2]
    · iexists _; isplitr; swap; · iexact HS2
      ipureintro
      refine (wPut_read Variants.none c none i arg1 harg1 arg2 harg2 arg3 harg3 arg4 harg4 arg5 harg5 arg6 harg6 arg7 harg7 arg8 harg8 arg9 harg9 arg10 harg10 _ _ _ _ _ hi3 _).trans ?_
      rw [harg2.read_unread, harg3.read_unread, harg9.read_unread]
    · iexists _; isplitr; swap; · iexact HS3
      ipureintro
      refine (nPut_read Variants.none c none i arg1 harg1 arg2 harg2 arg3 harg3 arg4 harg4 arg5 harg5 arg6 harg6 arg7 harg7 arg8 harg8 arg9 harg9 arg10 harg10 _ _ _ _ _ hi3 _).trans ?_
      rw [harg3.read_unread, harg4.read_unread, harg10.read_unread]

end Cert.KernelIdeal.Own

end
-- ==== Proof.KernelIdealBooks.lean ====
/- The scratch of codebooks: the twelve books, padded with zero rows. -/
module

public import proofs.«01_k».proof.Proof.KernelIdealTrip
public import Idealize.ShloMosaic.Lib.Pointwise
public import Idealize.ShloMosaic.Lib.ValueIdx
public import Idealize.ShloMosaic.Lib.WritesUnit
public import Idealize.ShloMosaic.Lib.Pipeline.ReadBack
public import Idealize.ShloMosaic.Lib.Ring
public import Idealize.ShloMosaic.Lib.Pipeline.CanonAppend

@[expose] public section

-- membership in a rectangle of production extents (`View.cover_of_tiled`): the elaborator's structural look
-- recurses once per coordinate of the long axes
set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The scratch of padded codebooks -/

theorem pay2_eq (v : Vec Ideal S1x200x256 .bf16) : k0_pay2 (F := Ideal) v = v := pay1_eq v
theorem pay3_eq (v : Vec Ideal S1x200x256 .bf16) : k0_pay3 (F := Ideal) v = v := pay1_eq v
theorem pay13_eq (v : Vec Ideal S1x200x256 .bf16) : k0_pay13 (F := Ideal) v = v := pay1_eq v
theorem pay14_eq (v : Vec Ideal S1x200x256 .bf16) : k0_pay14 (F := Ideal) v = v := pay1_eq v
theorem pay15_eq (v : Vec Ideal S1x200x256 .bf16) : k0_pay15 (F := Ideal) v = v := pay1_eq v
theorem pay16_eq (v : Vec Ideal S1x200x256 .bf16) : k0_pay16 (F := Ideal) v = v := pay1_eq v
theorem pay17_eq (v : Vec Ideal S1x200x256 .bf16) : k0_pay17 (F := Ideal) v = v := pay1_eq v
theorem pay18_eq (v : Vec Ideal S1x200x256 .bf16) : k0_pay18 (F := Ideal) v = v := pay1_eq v
theorem pay19_eq (v : Vec Ideal S1x200x256 .bf16) : k0_pay19 (F := Ideal) v = v := pay1_eq v
theorem pay20_eq (v : Vec Ideal S1x200x256 .bf16) : k0_pay20 (F := Ideal) v = v := pay1_eq v
theorem pay21_eq (v : Vec Ideal S1x200x256 .bf16) : k0_pay21 (F := Ideal) v = v := pay1_eq v

/-- A load of one box of what a list of stores left reads the stores' contents there. -/
theorem readCov_ld {sig : RefSig} {κ : Kind} {sp : Space} {s : Shape} {e : EltTy} (v : View sig κ sp s e) (L : List (View.Piece (Elt Ideal) s e)) (r : Rect s) :
    v.readCov L r.toLoadRect = View.ld (View.canon L) r := by
  unfold View.readCov
  rw [View.readAt_eq_ld, View.read_writes_junk_eq_canon]

/-- One stored book agrees with the padded codebooks. -/
theorem cb_piece (x1 : Vec Ideal S12x200x256 .bf16) (m : ℕ) (inb : ∀ a, (![m, 0, 0] : Fin 3 → ℕ) a + S1x200x256.size a ≤ S12x256x256.size a)
    (inb' : ∀ a, (![m, 0, 0] : Fin 3 → ℕ) a + S1x200x256.size a ≤ S12x200x256.size a) (x : S1x200x256.Idx) :
    View.ld x1 (Rect.unit (s := S12x200x256) ![m, 0, 0] S1x200x256.size inb') x
      = cbS x1 ((Rect.unit (s := S12x256x256) ![m, 0, 0] S1x200x256.size inb).emb x) := by
  have h1 : (x 1).val < 200 := (x 1).isLt
  have h1' : 0 + 1 * (x 1).val < 200 := by omega
  refine Eq.trans ?_ (dif_pos h1').symm
  refine congrArg x1 (funext fun a => Fin.ext ?_)
  fin_cases a <;> rfl

/-- The rows one stored book covers. -/
theorem cb_mem (m : ℕ) (inb : ∀ a, (![m, 0, 0] : Fin 3 → ℕ) a + S1x200x256.size a ≤ S12x256x256.size a) (y : S12x256x256.Idx) :
    y ∈ (Rect.unit (s := S12x256x256) ![m, 0, 0] S1x200x256.size inb).set ↔ (y 0).val = m ∧ (y 1).val < 200 := by
  have h2 : (y 2).val < 256 := (y 2).isLt
  rw [Rect.mem_set_unit]
  constructor
  · intro h
    have h0 : m ≤ (y 0).val ∧ (y 0).val < m + 1 := h 0
    have h1 : 0 ≤ (y 1).val ∧ (y 1).val < 0 + 200 := h 1
    omega
  · rintro ⟨h0, h1⟩ a
    fin_cases a
    · show m ≤ (y 0).val ∧ (y 0).val < m + 1; omega
    · show 0 ≤ (y 1).val ∧ (y 1).val < 0 + 200; omega
    · show 0 ≤ (y 2).val ∧ (y 2).val < 0 + 256; omega

/-- Boxes that miss an index leave what the earlier stores put there. -/
theorem canon_append_of_skip {s : Shape} {e : EltTy} (L L' : List (View.Piece (Elt Ideal) s e)) (y : s.Idx)
    (h : ∀ p ∈ L, y ∉ p.1.set) : View.canon (L ++ L') y = View.canon L' y := by
  induction L with
  | nil => rfl
  | cons p L ih =>
    rw [List.cons_append, View.canon_cons_of_not_mem _ _ (h p (List.Mem.head _))]
    exact ih fun q hq => h q (List.Mem.tail _ hq)

/-- The twelve stores of books after the zero fill leave the padded codebooks. -/
theorem canon_cb (x1 : Vec Ideal S12x200x256 .bf16) :
    View.canon (Val := Elt Ideal) ([⟨Rect.unit (s := S12x256x256) ![11, 0, 0] S1x200x256.size inb_S12x256x256_S1x200x256_11_0_0, View.ld x1 (Rect.unit (s := S12x200x256) ![11, 0, 0] S1x200x256.size inb_S12x200x256_S1x200x256_11_0_0)⟩,
        ⟨Rect.unit (s := S12x256x256) ![10, 0, 0] S1x200x256.size inb_S12x256x256_S1x200x256_10_0_0, View.ld x1 (Rect.unit (s := S12x200x256) ![10, 0, 0] S1x200x256.size inb_S12x200x256_S1x200x256_10_0_0)⟩,
        ⟨Rect.unit (s := S12x256x256) ![9, 0, 0] S1x200x256.size inb_S12x256x256_S1x200x256_9_0_0, View.ld x1 (Rect.unit (s := S12x200x256) ![9, 0, 0] S1x200x256.size inb_S12x200x256_S1x200x256_9_0_0)⟩,
        ⟨Rect.unit (s := S12x256x256) ![8, 0, 0] S1x200x256.size inb_S12x256x256_S1x200x256_8_0_0, View.ld x1 (Rect.unit (s := S12x200x256) ![8, 0, 0] S1x200x256.size inb_S12x200x256_S1x200x256_8_0_0)⟩,
        ⟨Rect.unit (s := S12x256x256) ![7, 0, 0] S1x200x256.size inb_S12x256x256_S1x200x256_7_0_0, View.ld x1 (Rect.unit (s := S12x200x256) ![7, 0, 0] S1x200x256.size inb_S12x200x256_S1x200x256_7_0_0)⟩,
        ⟨Rect.unit (s := S12x256x256) ![6, 0, 0] S1x200x256.size inb_S12x256x256_S1x200x256_6_0_0, View.ld x1 (Rect.unit (s := S12x200x256) ![6, 0, 0] S1x200x256.size inb_S12x200x256_S1x200x256_6_0_0)⟩,
        ⟨Rect.unit (s := S12x256x256) ![5, 0, 0] S1x200x256.size inb_S12x256x256_S1x200x256_5_0_0, View.ld x1 (Rect.unit (s := S12x200x256) ![5, 0, 0] S1x200x256.size inb_S12x200x256_S1x200x256_5_0_0)⟩,
        ⟨Rect.unit (s := S12x256x256) ![4, 0, 0] S1x200x256.size inb_S12x256x256_S1x200x256_4_0_0, View.ld x1 (Rect.unit (s := S12x200x256) ![4, 0, 0] S1x200x256.size inb_S12x200x256_S1x200x256_4_0_0)⟩,
        ⟨Rect.unit (s := S12x256x256) ![3, 0, 0] S1x200x256.size inb_S12x256x256_S1x200x256_3_0_0, View.ld x1 (Rect.unit (s := S12x200x256) ![3, 0, 0] S1x200x256.size inb_S12x200x256_S1x200x256_3_0_0)⟩,
        ⟨Rect.unit (s := S12x256x256) ![2, 0, 0] S1x200x256.size inb_S12x256x256_S1x200x256_2_0_0, View.ld x1 (Rect.unit (s := S12x200x256) ![2, 0, 0] S1x200x256.size inb_S12x200x256_S1x200x256_2_0_0)⟩,
        ⟨Rect.unit (s := S12x256x256) ![1, 0, 0] S1x200x256.size inb_S12x256x256_S1x200x256_1_0_0, View.ld x1 (Rect.unit (s := S12x200x256) ![1, 0, 0] S1x200x256.size inb_S12x200x256_S1x200x256_1_0_0)⟩,
        ⟨Rect.unit (s := S12x256x256) ![0, 0, 0] S1x200x256.size inb_S12x256x256_S1x200x256_0_0_0, View.ld x1 (Rect.unit (s := S12x200x256) ![0, 0, 0] S1x200x256.size inb_S12x200x256_S1x200x256_0_0_0)⟩] ++
        [⟨Rect.unit (s := S12x256x256) ![0, 0, 0] S12x256x256.size inb_S12x256x256_S12x256x256_0_0_0, k0_pay12 (F := Ideal)⟩]) = cbS x1 := by
  funext y
  have h0 : (y 0).val < 12 := (y 0).isLt
  by_cases hy : (y 1).val < 200
  · refine View.canon_append_of_pieces (cbS x1) _ _ (View.PiecesOf.mem ?_) y ?_
    · exact ⟨cb_piece x1 11 inb_S12x256x256_S1x200x256_11_0_0 inb_S12x200x256_S1x200x256_11_0_0, cb_piece x1 10 inb_S12x256x256_S1x200x256_10_0_0 inb_S12x200x256_S1x200x256_10_0_0, cb_piece x1 9 inb_S12x256x256_S1x200x256_9_0_0 inb_S12x200x256_S1x200x256_9_0_0, cb_piece x1 8 inb_S12x256x256_S1x200x256_8_0_0 inb_S12x200x256_S1x200x256_8_0_0, cb_piece x1 7 inb_S12x256x256_S1x200x256_7_0_0 inb_S12x200x256_S1x200x256_7_0_0, cb_piece x1 6 inb_S12x256x256_S1x200x256_6_0_0 inb_S12x200x256_S1x200x256_6_0_0, cb_piece x1 5 inb_S12x256x256_S1x200x256_5_0_0 inb_S12x200x256_S1x200x256_5_0_0, cb_piece x1 4 inb_S12x256x256_S1x200x256_4_0_0 inb_S12x200x256_S1x200x256_4_0_0, cb_piece x1 3 inb_S12x256x256_S1x200x256_3_0_0 inb_S12x200x256_S1x200x256_3_0_0, cb_piece x1 2 inb_S12x256x256_S1x200x256_2_0_0 inb_S12x200x256_S1x200x256_2_0_0, cb_piece x1 1 inb_S12x256x256_S1x200x256_1_0_0 inb_S12x200x256_S1x200x256_1_0_0, cb_piece x1 0 inb_S12x256x256_S1x200x256_0_0_0 inb_S12x200x256_S1x200x256_0_0_0, trivial⟩
    · rcases (by omega : (y 0).val = 0 ∨ (y 0).val = 1 ∨ (y 0).val = 2 ∨ (y 0).val = 3 ∨ (y 0).val = 4 ∨ (y 0).val = 5 ∨ (y 0).val = 6 ∨ (y 0).val = 7 ∨ (y 0).val = 8 ∨ (y 0).val = 9 ∨ (y 0).val = 10 ∨ (y 0).val = 11) with h | h | h | h | h | h | h | h | h | h | h | h
      · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))), (cb_mem 0 inb_S12x256x256_S1x200x256_0_0_0 y).2 ⟨h, hy⟩⟩
      · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.head _)))))))))), (cb_mem 1 inb_S12x256x256_S1x200x256_1_0_0 y).2 ⟨h, hy⟩⟩
      · exact ⟨_, List.Mem.tail _ (List.Mem.tail _ (List.Mem.tail _ (List.Mem.tail _ (List.Mem.tail _ (List.Mem.tail _ (List.Mem.tail _ (List.Mem.tail _ (List.Mem.tail _ (List.Mem.head _))))))))), (cb_mem 2 inb_S12x256x256_S1x200x256_2_0_0 y).2 ⟨h, hy⟩⟩
      · exact ⟨_, List.Mem.tail _ (List.Mem.tail _ (List.Mem.tail _ (List.Mem.tail _ (List.Mem.tail _ (List.Mem.tail _ (List.Mem.tail _ (List.Mem.tail _ (List.Mem.head _)))))))), (cb_mem 3 inb_S12x256x256_S1x200x256_3_0_0 y).2 ⟨h, hy⟩⟩
      · exact ⟨_, List.Mem.tail _ (List.Mem.tail _ (List.Mem.tail _ (List.Mem.tail _ (List.Mem.tail _ (List.Mem.tail _ (List.Mem.tail _ (List.Mem.head _))))))), (cb_mem 4 inb_S12x256x256_S1x200x256_4_0_0 y).2 ⟨h, hy⟩⟩
      · exact ⟨_, List.Mem.tail _ (List.Mem.tail _ (List.Mem.tail _ (List.Mem.tail _ (List.Mem.tail _ (List.Mem.tail _ (List.Mem.head _)))))), (cb_mem 5 inb_S12x256x256_S1x200x256_5_0_0 y).2 ⟨h, hy⟩⟩
      · exact ⟨_, List.Mem.tail _ (List.Mem.tail _ (List.Mem.tail _ (List.Mem.tail _ (List.Mem.tail _ (List.Mem.head _))))), (cb_mem 6 inb_S12x256x256_S1x200x256_6_0_0 y).2 ⟨h, hy⟩⟩
      · exact ⟨_, List.Mem.tail _ (List.Mem.tail _ (List.Mem.tail _ (List.Mem.tail _ (List.Mem.head _)))), (cb_mem 7 inb_S12x256x256_S1x200x256_7_0_0 y).2 ⟨h, hy⟩⟩
      · exact ⟨_, List.Mem.tail _ (List.Mem.tail _ (List.Mem.tail _ (List.Mem.head _))), (cb_mem 8 inb_S12x256x256_S1x200x256_8_0_0 y).2 ⟨h, hy⟩⟩
      · exact ⟨_, List.Mem.tail _ (List.Mem.tail _ (List.Mem.head _)), (cb_mem 9 inb_S12x256x256_S1x200x256_9_0_0 y).2 ⟨h, hy⟩⟩
      · exact ⟨_, List.Mem.tail _ (List.Mem.head _), (cb_mem 10 inb_S12x256x256_S1x200x256_10_0_0 y).2 ⟨h, hy⟩⟩
      · exact ⟨_, List.Mem.head _, (cb_mem 11 inb_S12x256x256_S1x200x256_11_0_0 y).2 ⟨h, hy⟩⟩
  · refine (canon_append_of_skip _ _ y ?_).trans ?_
    · rw [List.forall_iff_forall_mem.symm]
      exact ⟨fun hm => hy ((cb_mem 11 inb_S12x256x256_S1x200x256_11_0_0 y).1 hm).2, fun hm => hy ((cb_mem 10 inb_S12x256x256_S1x200x256_10_0_0 y).1 hm).2, fun hm => hy ((cb_mem 9 inb_S12x256x256_S1x200x256_9_0_0 y).1 hm).2, fun hm => hy ((cb_mem 8 inb_S12x256x256_S1x200x256_8_0_0 y).1 hm).2, fun hm => hy ((cb_mem 7 inb_S12x256x256_S1x200x256_7_0_0 y).1 hm).2, fun hm => hy ((cb_mem 6 inb_S12x256x256_S1x200x256_6_0_0 y).1 hm).2, fun hm => hy ((cb_mem 5 inb_S12x256x256_S1x200x256_5_0_0 y).1 hm).2, fun hm => hy ((cb_mem 4 inb_S12x256x256_S1x200x256_4_0_0 y).1 hm).2, fun hm => hy ((cb_mem 3 inb_S12x256x256_S1x200x256_3_0_0 y).1 hm).2, fun hm => hy ((cb_mem 2 inb_S12x256x256_S1x200x256_2_0_0 y).1 hm).2, fun hm => hy ((cb_mem 1 inb_S12x256x256_S1x200x256_1_0_0 y).1 hm).2, fun hm => hy ((cb_mem 0 inb_S12x256x256_S1x200x256_0_0_0 y).1 hm).2⟩
    have hz : (![0, 0, 0] : Fin 3 → ℕ) = fun _ => 0 := by funext a; fin_cases a <;> rfl
    refine (congrFun (View.canon_cons_unit_lit (S := S12x256x256) inb_S12x256x256_S12x256x256_0_0_0 _ _ (congrFun hz)) y).trans ?_
    rw [pay12_apply]
    unfold cbS cbK
    rw [dif_neg hy]

/-- The same list of stores written out. -/
theorem canon_books (x1 : Vec Ideal S12x200x256 .bf16) :
    View.canon (Val := Elt Ideal) [⟨Rect.unit (s := S12x256x256) ![11, 0, 0] S1x200x256.size inb_S12x256x256_S1x200x256_11_0_0, View.ld x1 (Rect.unit (s := S12x200x256) ![11, 0, 0] S1x200x256.size inb_S12x200x256_S1x200x256_11_0_0)⟩,
        ⟨Rect.unit (s := S12x256x256) ![10, 0, 0] S1x200x256.size inb_S12x256x256_S1x200x256_10_0_0, View.ld x1 (Rect.unit (s := S12x200x256) ![10, 0, 0] S1x200x256.size inb_S12x200x256_S1x200x256_10_0_0)⟩,
        ⟨Rect.unit (s := S12x256x256) ![9, 0, 0] S1x200x256.size inb_S12x256x256_S1x200x256_9_0_0, View.ld x1 (Rect.unit (s := S12x200x256) ![9, 0, 0] S1x200x256.size inb_S12x200x256_S1x200x256_9_0_0)⟩,
        ⟨Rect.unit (s := S12x256x256) ![8, 0, 0] S1x200x256.size inb_S12x256x256_S1x200x256_8_0_0, View.ld x1 (Rect.unit (s := S12x200x256) ![8, 0, 0] S1x200x256.size inb_S12x200x256_S1x200x256_8_0_0)⟩,
        ⟨Rect.unit (s := S12x256x256) ![7, 0, 0] S1x200x256.size inb_S12x256x256_S1x200x256_7_0_0, View.ld x1 (Rect.unit (s := S12x200x256) ![7, 0, 0] S1x200x256.size inb_S12x200x256_S1x200x256_7_0_0)⟩,
        ⟨Rect.unit (s := S12x256x256) ![6, 0, 0] S1x200x256.size inb_S12x256x256_S1x200x256_6_0_0, View.ld x1 (Rect.unit (s := S12x200x256) ![6, 0, 0] S1x200x256.size inb_S12x200x256_S1x200x256_6_0_0)⟩,
        ⟨Rect.unit (s := S12x256x256) ![5, 0, 0] S1x200x256.size inb_S12x256x256_S1x200x256_5_0_0, View.ld x1 (Rect.unit (s := S12x200x256) ![5, 0, 0] S1x200x256.size inb_S12x200x256_S1x200x256_5_0_0)⟩,
        ⟨Rect.unit (s := S12x256x256) ![4, 0, 0] S1x200x256.size inb_S12x256x256_S1x200x256_4_0_0, View.ld x1 (Rect.unit (s := S12x200x256) ![4, 0, 0] S1x200x256.size inb_S12x200x256_S1x200x256_4_0_0)⟩,
        ⟨Rect.unit (s := S12x256x256) ![3, 0, 0] S1x200x256.size inb_S12x256x256_S1x200x256_3_0_0, View.ld x1 (Rect.unit (s := S12x200x256) ![3, 0, 0] S1x200x256.size inb_S12x200x256_S1x200x256_3_0_0)⟩,
        ⟨Rect.unit (s := S12x256x256) ![2, 0, 0] S1x200x256.size inb_S12x256x256_S1x200x256_2_0_0, View.ld x1 (Rect.unit (s := S12x200x256) ![2, 0, 0] S1x200x256.size inb_S12x200x256_S1x200x256_2_0_0)⟩,
        ⟨Rect.unit (s := S12x256x256) ![1, 0, 0] S1x200x256.size inb_S12x256x256_S1x200x256_1_0_0, View.ld x1 (Rect.unit (s := S12x200x256) ![1, 0, 0] S1x200x256.size inb_S12x200x256_S1x200x256_1_0_0)⟩,
        ⟨Rect.unit (s := S12x256x256) ![0, 0, 0] S1x200x256.size inb_S12x256x256_S1x200x256_0_0_0, View.ld x1 (Rect.unit (s := S12x200x256) ![0, 0, 0] S1x200x256.size inb_S12x200x256_S1x200x256_0_0_0)⟩,
        ⟨Rect.unit (s := S12x256x256) ![0, 0, 0] S12x256x256.size inb_S12x256x256_S12x256x256_0_0_0, k0_pay12 (F := Ideal)⟩] = cbS x1 := canon_cb x1

end Cert.KernelIdeal.Own

end
-- ==== Proof.KernelIdealValueA.lean ====
/- One grid point of the kernel in case A: its triple over the extended reals, with what it leaves in every buffer named. -/
module

public import proofs.«01_k».proof.Proof.KernelIdealValueB
public import proofs.«01_k».proof.Proof.KernelIdealBooks

@[expose] public section

-- membership in a rectangle of production extents (`View.cover_of_tiled`): the elaborator's structural look
-- recurses once per coordinate of the long axes
set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

-- (the run's proof term is large: checking it walks past the default budget)
set_option maxHeartbeats 1000000 in
/-- The body's triple IN CASE A (`scf.if` 0 taken, `scf.if` 1 taken, `scf.if` 2 taken, `scf.if` 3 not taken: points 0): on whole staging memrefs — the inputs' at their contents,
    the outputs' at any contents, the scratch at the contents named —
    the body runs to the continuation holding the inputs' as they were, the outputs and the scratch at the named results: the printed functions are their skeletons (`Gen.*_eq_skeleton`),
    which `sl_exec` runs (Lib/Exec.lean) — each `scf.if` decided by the case's hypotheses `hc·`. -/
theorem valueRun0_A (c : Dev nD) (i : grid0.Coords) (arg1 : Memref sig .tc .vmem S200x256 .bf16) (harg1 : arg1.IsWhole) (arg2 : Memref sig .tc .vmem S12x200x256 .bf16) (harg2 : arg2.IsWhole) (arg3 : Memref sig .tc .vmem S4x4992 .i32) (harg3 : arg3.IsWhole) (arg4 : Memref sig .tc .vmem S1x256 .f32) (harg4 : arg4.IsWhole) (arg5 : Memref sig .tc .vmem S256x4992 .f32) (harg5 : arg5.IsWhole) (arg6 : Memref sig .tc .vmem S12x256x256 .f32) (harg6 : arg6.IsWhole) (arg7 : Memref sig .tc .vmem S24x256x768 .bf16) (harg7 : arg7.IsWhole) (arg8 : Memref sig .tc .vmem S12x256x256 .bf16) (harg8 : arg8.IsWhole) (arg9 : Memref sig .tc .vmem S768x5120 .bf16) (harg9 : arg9.IsWhole) (arg10 : Memref sig .tc .vmem S8x4992 .f32) (harg10 : arg10.IsWhole) (hc0 : cond0_0 i) (hc1 : cond0_1 i) (hc2 : cond0_2 i) (hc3 : ¬cond0_3 i) (hi3 : (i 0).val < 3)
    (x0 : Vec Ideal S200x256 .bf16) (x1 : Vec Ideal S12x200x256 .bf16) (x2 : Vec Ideal S4x4992 .i32) (x3 : Vec Ideal S1x256 .f32) (x4 : Vec Ideal S256x4992 .f32) (x5 : Vec Ideal S12x256x256 .f32) (s7 : Vec Ideal S24x256x768 .bf16) (s8 : Vec Ideal S12x256x256 .bf16) (s9 : Vec Ideal S768x5120 .bf16) (s10 : Vec Ideal S8x4992 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare s7 ∗ owns (c : Thread nD τ) arg8 fullShare s8 ∗ owns (c : Thread nD τ) arg9 fullShare s9 ∗ owns (c : Thread nD τ) arg10 fullShare s10
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (lutOf x0 (cbS x1)) ∗ owns (c : Thread nD τ) arg7 fullShare (qPut s7 i x0) ∗ owns (c : Thread nD τ) arg8 fullShare (cbS x1) ∗ owns (c : Thread nD τ) arg9 fullShare (wPut (fun _ => 0) i x1 x2) ∗ owns (c : Thread nD τ) arg10 fullShare (nPut s10 i x2 x3)) -∗ K ⟨⟩))
          ⊢ wp frame (wpE (defs₀ (F := Ideal)) Variants.none c none) E (cc0_aq_adc i arg1 harg1 arg2 harg2 arg3 harg3 arg4 harg4 arg5 harg5 arg6 harg6 arg7 harg7 arg8 harg8 arg9 harg9 arg10 harg10) K := by
    intro E K
    simp only [cc0_aq_adc_eq_skeleton]; unfold cc0_aq_adc_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hs0, HS0⟩, ⟨%fs1, %hs1, HS1⟩, ⟨%fs2, %hs2, HS2⟩, ⟨%fs3, %hs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hs0; obtain rfl := harg8.eq_unread hs1; obtain rfl := harg9.eq_unread hs2; obtain rfl := harg10.eq_unread hs3
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro; exact harg5.read_unread _
    isplitl [H5]
    · iexists _; isplitr; swap; · iexact H5
      ipureintro
      funext y
      sl_unfold_run_names
      refine View.read_writes_apply_of_pieces _ _ (lutOf x0 (cbS x1)) _ (View.PiecesOf.mem ?_) y (View.cover_of_tiledBy _ ![1, 256, 256] (by sl_kernel_rfl) y)
      simp only [readCov_ld, View.readAt_eq_ld, harg1.read_unread, harg2.read_unread, pay13_eq, pay14_eq, pay15_eq, pay16_eq, pay17_eq, pay18_eq, pay19_eq, pay20_eq, pay21_eq, pay1_eq, pay2_eq, pay3_eq, View.ld_unit_zero (S := S200x256) zero2]
      generalize hz : View.canon (Val := Elt Ideal) (_ :: _) = z
      obtain rfl : z = cbS x1 := hz.symm.trans (canon_books x1)
      clear hz
      refine ⟨?_, ?_, ?_, ?_, ?_, ?_, ?_, ?_, ?_, ?_, ?_, ?_, trivial⟩
      · exact fun x => lut_piece _ _ 11 inb_S12x256x256_S1x256x256_11_0_0 x
      · exact fun x => lut_piece _ _ 10 inb_S12x256x256_S1x256x256_10_0_0 x
      · exact fun x => lut_piece _ _ 9 inb_S12x256x256_S1x256x256_9_0_0 x
      · exact fun x => lut_piece _ _ 8 inb_S12x256x256_S1x256x256_8_0_0 x
      · exact fun x => lut_piece _ _ 7 inb_S12x256x256_S1x256x256_7_0_0 x
      · exact fun x => lut_piece _ _ 6 inb_S12x256x256_S1x256x256_6_0_0 x
      · exact fun x => lut_piece _ _ 5 inb_S12x256x256_S1x256x256_5_0_0 x
      · exact fun x => lut_piece _ _ 4 inb_S12x256x256_S1x256x256_4_0_0 x
      · exact fun x => lut_piece _ _ 3 inb_S12x256x256_S1x256x256_3_0_0 x
      · exact fun x => lut_piece _ _ 2 inb_S12x256x256_S1x256x256_2_0_0 x
      · exact fun x => lut_piece _ _ 1 inb_S12x256x256_S1x256x256_1_0_0 x
      · exact fun x => lut_piece _ _ 0 inb_S12x256x256_S1x256x256_0_0_0 x
    isplitl [HS0]
    · iexists _; isplitr; swap; · iexact HS0
      ipureintro
      sl_unfold_run_names
      simp only [readAt_unread, View.ld_unit_zero (S := S200x256) zero2]
      exact qPut_read harg7 s7 i x0 _ _ _
    isplitl [HS1]
    · iexists _; isplitr; swap; · iexact HS1
      ipureintro
      sl_unfold_run_names
      rw [View.read_writes_junk_eq_canon]
      simp only [View.readAt_eq_ld, harg2.read_unread, pay13_eq, pay14_eq, pay15_eq, pay16_eq, pay17_eq, pay18_eq, pay19_eq, pay20_eq, pay21_eq, pay1_eq, pay2_eq, pay3_eq]
      exact canon_books x1
    isplitl [HS2]
    · iexists _; isplitr; swap; · iexact HS2
      ipureintro
      sl_unfold_run_names
      rw [View.writes_append]
      refine (wPut_read Variants.none c none i arg1 harg1 arg2 harg2 arg3 harg3 arg4 harg4 arg5 harg5 arg6 harg6 arg7 harg7 arg8 harg8 arg9 harg9 arg10 harg10 _ _ _ _ _ hi3 _).trans ?_
      rw [harg2.read_unread, harg3.read_unread, View.read_writes_junk_eq_canon]
      congr 1
      have hz : (![0, 0] : Fin 2 → ℕ) = fun _ => 0 := by funext a; fin_cases a <;> rfl
      refine (View.canon_cons_unit_lit (S := S768x5120) inb_S768x5120_S768x5120_0_0 _ _ (congrFun hz)).trans ?_
      funext y
      exact pay4_apply y
    · iexists _; isplitr; swap; · iexact HS3
      ipureintro
      refine (nPut_read Variants.none c none i arg1 harg1 arg2 harg2 arg3 harg3 arg4 harg4 arg5 harg5 arg6 harg6 arg7 harg7 arg8 harg8 arg9 harg9 arg10 harg10 _ _ _ _ _ hi3 _).trans ?_
      rw [harg3.read_unread, harg4.read_unread, harg10.read_unread]

end Cert.KernelIdeal.Own

end
-- ==== Proof.KernelIdealState.lean ====
/- What the scratch buffers hold between grid points, and how each kind of point carries it on. -/
module

public import proofs.«01_k».proof.Proof.KernelIdealTrip
public import Idealize.ShloMosaic.Lib.Pointwise
public import Idealize.ShloMosaic.Lib.ValueIdx
public import Idealize.ShloMosaic.Lib.WritesUnit
public import Idealize.ShloMosaic.Lib.Pipeline.ReadBack
public import Idealize.ShloMosaic.Lib.Ring

@[expose] public section

-- membership in a rectangle of production extents (`View.cover_of_tiled`): the elaborator's structural look
-- recurses once per coordinate of the long axes
set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- What the four scratch buffers hold before point `n`, given the query blocks `Q`, the codebooks `x1`, the packed codes
    `x2` and the norm table `x3`: the query blocks of the points so far, each three times side by side; the padded codebooks;
    the decoded columns and the norms of the points so far. -/
structure Inv (Q : Fin 24 → Vec Ideal S200x256 .bf16) (x1 : Vec Ideal S12x200x256 .bf16) (x2 : Vec Ideal S4x4992 .i32)
    (x3 : Vec Ideal S1x256 .f32) (n : ℕ) (s7 : Vec Ideal S24x256x768 .bf16) (s8 : Vec Ideal S12x256x256 .bf16)
    (s9 : Vec Ideal S768x5120 .bf16) (s10 : Vec Ideal S8x4992 .f32) : Prop where
  q : ∀ (b : Fin 24) (r : Fin 256) (K : Fin 768), b.val < n → s7 (ix3 b r K) = qK (Q b) r ⟨K.val % 256, Nat.mod_lt _ (by decide)⟩
  cb : 0 < n → s8 = cbS x1
  w : 0 < n → ∀ j : S768x5120.Idx, (200 ≤ (j 0).val % 256 ∨ (j 1).val < 1664 * min n 3) → s9 j = wFull x1 x2 j
  nr : ∀ j : S8x4992.Idx, (j 1).val < 1664 * min n 3 → s10 j = nFull x2 x3 j

variable {Q : Fin 24 → Vec Ideal S200x256 .bf16} {x1 : Vec Ideal S12x200x256 .bf16} {x2 : Vec Ideal S4x4992 .i32}
  {x3 : Vec Ideal S1x256 .f32} {s7 : Vec Ideal S24x256x768 .bf16} {s8 : Vec Ideal S12x256x256 .bf16}
  {s9 : Vec Ideal S768x5120 .bf16} {s10 : Vec Ideal S8x4992 .f32}

/-- Nothing is required before the first point. -/
theorem inv_zero : Inv Q x1 x2 x3 0 s7 s8 s9 s10 :=
  ⟨fun _ _ _ h => absurd h (Nat.not_lt_zero _), fun h => absurd h (Nat.lt_irrefl _), fun h => absurd h (Nat.lt_irrefl _),
    fun j h => absurd h (by omega)⟩

/-- A point before 24 adds its query block. -/
theorem inv_q {n : ℕ} (i : grid0.Coords) (b : Fin 24) (hb : b.val = n) (hi : (i 0).val = n)
    (h : ∀ (b : Fin 24) (r : Fin 256) (K : Fin 768), b.val < n → s7 (ix3 b r K) = qK (Q b) r ⟨K.val % 256, Nat.mod_lt _ (by decide)⟩)
    (b' : Fin 24) (r : Fin 256) (K : Fin 768) (hb' : b'.val < n + 1) :
    qPut s7 i (Q b) (ix3 b' r K) = qK (Q b') r ⟨K.val % 256, Nat.mod_lt _ (by decide)⟩ := by
  by_cases e : b'.val = n
  · obtain rfl : b' = b := Fin.ext (e.trans hb.symm)
    exact if_pos (show b'.val = (i 0).val by omega)
  · exact (if_neg (show ¬ b'.val = (i 0).val by omega)).trans (h b' r K (by omega))

/-- A padded row of the decoded columns is zero. -/
theorem wFull_pad (j : S768x5120.Idx) (h : 200 ≤ (j 0).val % 256) : wFull x1 x2 j = 0 := by
  unfold wFull
  exact dif_neg (by omega)

/-- A point before 3 adds its columns. -/
theorem inv_w {n : ℕ} (i : grid0.Coords) (hi : (i 0).val = n) (hn : n < 3)
    (h : ∀ j : S768x5120.Idx, (200 ≤ (j 0).val % 256 ∨ (j 1).val < 1664 * min n 3) → s9 j = wFull x1 x2 j)
    (j : S768x5120.Idx) (hj : 200 ≤ (j 0).val % 256 ∨ (j 1).val < 1664 * min (n + 1) 3) : wPut s9 i x1 x2 j = wFull x1 x2 j := by
  unfold wPut
  split_ifs with e
  · rfl
  · exact h j (by omega)

/-- A point before 3 adds its norms. -/
theorem inv_n {n : ℕ} (i : grid0.Coords) (hi : (i 0).val = n) (hn : n < 3)
    (h : ∀ j : S8x4992.Idx, (j 1).val < 1664 * min n 3 → s10 j = nFull x2 x3 j)
    (j : S8x4992.Idx) (hj : (j 1).val < 1664 * min (n + 1) 3) : nPut s10 i x2 x3 j = nFull x2 x3 j := by
  unfold nPut
  split_ifs with e
  · rfl
  · exact h j (by omega)

/-- The first point. -/
theorem inv_A (i : grid0.Coords) (b : Fin 24) (hb : b.val = 0) (hi : (i 0).val = 0) (h : Inv Q x1 x2 x3 0 s7 s8 s9 s10) :
    Inv Q x1 x2 x3 1 (qPut s7 i (Q b)) (cbS x1) (wPut (fun _ => 0) i x1 x2) (nPut s10 i x2 x3) :=
  ⟨inv_q i b hb hi h.q, fun _ => rfl,
    fun _ => inv_w i hi (by decide) (fun j hj => (wFull_pad j (by omega)).symm), inv_n i hi (by decide) h.nr⟩

/-- A later point before 3. -/
theorem inv_B {n : ℕ} (h0 : 0 < n) (hn : n < 3) (i : grid0.Coords) (b : Fin 24) (hb : b.val = n) (hi : (i 0).val = n)
    (h : Inv Q x1 x2 x3 n s7 s8 s9 s10) :
    Inv Q x1 x2 x3 (n + 1) (qPut s7 i (Q b)) s8 (wPut s9 i x1 x2) (nPut s10 i x2 x3) :=
  ⟨inv_q i b hb hi h.q, fun _ => h.cb h0, fun _ => inv_w i hi hn (h.w h0), inv_n i hi hn h.nr⟩

/-- A point from 3 on, before 24. -/
theorem inv_C {n : ℕ} (h3 : 3 ≤ n) (i : grid0.Coords) (b : Fin 24) (hb : b.val = n) (hi : (i 0).val = n)
    (h : Inv Q x1 x2 x3 n s7 s8 s9 s10) : Inv Q x1 x2 x3 (n + 1) (qPut s7 i (Q b)) s8 s9 s10 :=
  ⟨inv_q i b hb hi h.q, fun _ => h.cb (by omega), fun _ j hj => h.w (by omega) j (by omega), fun j hj => h.nr j (by omega)⟩

/-- A point from 24 on. -/
theorem inv_D {n : ℕ} (h24 : 24 ≤ n) (h : Inv Q x1 x2 x3 n s7 s8 s9 s10) : Inv Q x1 x2 x3 (n + 1) s7 s8 s9 s10 :=
  ⟨fun b r K _ => h.q b r K (by omega), fun _ => h.cb (by omega), fun _ j hj => h.w (by omega) j (by omega),
    fun j hj => h.nr j (by omega)⟩

/-- The block of distances of query block `x0`, the scratch all filled. -/
def distBlk (x0 : Vec Ideal S200x256 .bf16) (x1 : Vec Ideal S12x200x256 .bf16) (x2 : Vec Ideal S4x4992 .i32) (x3 : Vec Ideal S1x256 .f32) :
    Vec Ideal S256x4992 .f32 :=
  distOf (fun r K => qK x0 r ⟨K.val % 256, Nat.mod_lt _ (by decide)⟩) (wFull x1 x2) (nFull x2 x3)

/-- From point 3 on the distances are of the query block three points back. -/
theorem dist_inv {n : ℕ} (h3 : 3 ≤ n) (hn : n < 27) (i : grid0.Coords) (hi : (i 0).val = n) (h : Inv Q x1 x2 x3 n s7 s8 s9 s10) :
    distOf (qRows s7 i) s9 s10 = distBlk (Q ⟨n - 3, by omega⟩) x1 x2 x3 := by
  subst hi
  have hq : qRows s7 i = fun r K => qK (Q ⟨(i 0).val - 3, by omega⟩) r ⟨K.val % 256, Nat.mod_lt _ (by decide)⟩ :=
    funext fun r => funext fun K => h.q ⟨(i 0).val - 3, by omega⟩ r K (show (i 0).val - 3 < (i 0).val by omega)
  unfold distBlk
  rw [hq]
  funext j
  have hj : (j 1).val < 4992 := (j 1).isLt
  unfold distOf
  refine congrArg₂ (· + ·) (congrArg₂ (· + ·) rfl (Finset.sum_congr rfl fun K _ => congrArg₂ (· * ·) rfl ?_)) ?_
  · exact h.w (by omega) _ (Or.inr (show (j 1).val < 1664 * min (i 0).val 3 by omega))
  · exact h.nr _ (show (j 1).val < 1664 * min (i 0).val 3 by omega)

end Cert.KernelIdeal.Own

end
-- ==== Proof.KernelIdealData.lean ====
/- The proof data of the pipeline over the extended reals with every buffer named, and the body at every point. -/
module

public import proofs.«01_k».proof.Proof.KernelIdealValueC
public import proofs.«01_k».proof.Proof.KernelIdealValueA
public import proofs.«01_k».proof.Proof.KernelIdealState
public import Idealize.ShloMosaic.Lib.Pipeline.TableIdle
public import Idealize.ShloMosaic.Lib.Pipeline.ValueKit.Point
public import Idealize.ShloMosaic.Lib.Claim

@[expose] public section

-- membership in a rectangle of production extents (`View.cover_of_tiled`): the elaborator's structural look
-- recurses once per coordinate of the long axes
set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The arrays the windows read -/

/-- The point of index `n`. -/
abbrev pt (n : ℕ) (h : n < 27) : Fin cfg0.N := ⟨n, lt_of_lt_of_eq h N_0.symm⟩

/-- Query block `b`. -/
def QB (c : Dev nD) (b : Fin 24) : Vec Ideal S200x256 .bf16 := iblk m c 0 (pt b.val (by omega))
/-- The codebooks the region reads. -/
def X1 (c : Dev nD) : Vec Ideal S12x200x256 .bf16 := V m c main_v1
/-- The packed codes the region reads. -/
def X2 (c : Dev nD) : Vec Ideal S4x4992 .i32 := V m c main_v3
/-- The norm table the region reads. -/
def X3 (c : Dev nD) : Vec Ideal S1x256 .f32 := V m c main_v4

theorem idx1 : ∀ t : Fin cfg0.N, win0_1.index t = ![0, 0, 0] := fun _ => rfl
theorem idx2 : ∀ t : Fin cfg0.N, win0_2.index t = ![0, 0] := fun _ => rfl
theorem idx3 : ∀ t : Fin cfg0.N, win0_3.index t = ![0, 0] := fun _ => rfl

/-- Windows 1, 2, 3 are their whole arrays at every point. -/
theorem iblk_1 (c : Dev nD) (t : Fin cfg0.N) : iblk m c 1 t = X1 m c := by
  have key : ∀ (a : Fin 12) (b : Fin 200) (d : Fin 256), iblk m c 1 t (ix3 a b d) = X1 m c (ix3 a b d) := by
    intro a b d
    unfold X1
    blk_ext [iblk, idx1 t]
  funext x
  rw [eq_ix3 x]
  exact key _ _ _
theorem iblk_2 (c : Dev nD) (t : Fin cfg0.N) : iblk m c 2 t = X2 m c := by
  have key : ∀ (a : Fin 4) (b : Fin 4992), iblk m c 2 t (ix2 a b) = X2 m c (ix2 a b) := by
    intro a b
    unfold X2
    blk_ext [iblk, idx2 t]
  funext x
  rw [eq_ix2 x]
  exact key _ _
theorem iblk_3 (c : Dev nD) (t : Fin cfg0.N) : iblk m c 3 t = X3 m c := by
  have key : ∀ (a : Fin 1) (b : Fin 256), iblk m c 3 t (ix2 a b) = X3 m c (ix2 a b) := by
    intro a b
    unfold X3
    blk_ext [iblk, idx3 t]
  funext x
  rw [eq_ix2 x]
  exact key _ _

/-! ## Idle points and write-backs -/

/-- Window 4 is written back from point 3 on, window 5 before point 23 and at the last. -/
theorem flush0_4 : ∀ t : Fin cfg0.N, (cfg0.win 4).flush t = decide (3 ≤ t.val) :=
  (by decide +kernel : ∀ t : Fin grid0.N, win0_4.flush t = decide (3 ≤ t.val))
theorem flush0_5 : ∀ t : Fin cfg0.N, (cfg0.win 5).flush t = decide (t.val < 23 ∨ t.val = 26) :=
  (by decide +kernel : ∀ t : Fin grid0.N, win0_5.flush t = decide (t.val < 23 ∨ t.val = 26))
/-- The grid's coordinate is the point. -/
theorem coords_eq (t : Fin cfg0.N) : (grid0.coords t 0).val = t.val := by
  have ht : t.val < 27 := Nat.lt_of_lt_of_eq t.isLt N_0
  have e0 : (grid0.coords t 0).val = t.val / 1 % 27 := Pipeline.Grid.coords_val t 0 (by decide) rfl
  omega
/-- Window 4 is idle before point 3, window 5 from point 24 on. -/
theorem idle0_4 (t : Fin cfg0.N) : cfg0.idle 4 (cfg0.grid.coords t) = decide (t.val < 3) :=
  (by decide +kernel : ∀ t : Fin grid0.N, idle0 4 (grid0.coords t) = decide (t.val < 3)) t
theorem idle0_5 (t : Fin cfg0.N) : cfg0.idle 5 (cfg0.grid.coords t) = decide (24 ≤ t.val) :=
  (by decide +kernel : ∀ t : Fin grid0.N, idle0 5 (grid0.coords t) = decide (24 ≤ t.val)) t

/-! ## The proof data -/

/-- The block of distances written at point `t`. -/
def out4 (c : Dev nD) (t : Fin cfg0.N) : Vec Ideal S256x4992 .f32 :=
  distBlk (QB m c ⟨t.val - 3, by have := lt_of_lt_of_eq t.isLt N_0; omega⟩) (X1 m c) (X2 m c) (X3 m c)
/-- The block of the table of products in the staging buffer at point `t`. -/
def out5 (c : Dev nD) (t : Fin cfg0.N) : Vec Ideal S12x256x256 .f32 :=
  lutOf (QB m c ⟨min t.val 23, by omega⟩) (cbS (X1 m c))

/-- The scratch buffers at contents the invariant `Inv` describes, and the generator register. -/
def PhiV (c : Dev nD) (n : ℕ) : sProp 𝕄 :=
  iprop((∃ s7 s8 s9 s10, ⌜Inv (QB m c) (X1 m c) (X2 m c) (X3 m c) n s7 s8 s9 s10⌝ ∗ owns (c : Thread nD τ) scM0_0 fullShare s7 ∗ owns (c : Thread nD τ) scM0_1 fullShare s8 ∗ owns (c : Thread nD τ) scM0_2 fullShare s9 ∗ owns (c : Thread nD τ) scM0_3 fullShare s10)
    ∗ (∃ r, prngReg c r))

/-- The proof data of the one pipeline on core `c`, everything named. -/
def vdats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 m c t
    | ⟨5, _⟩ => out5 m c t
  Φ t := PhiV m c t.val
  q _ := fullShare
  owed _ := 0

theorem vA_eq (c : Dev nD) (w : Fin cfg0.W) : (vdats m 0 c).A w = V m c (Pipeline.arrRef spec0 w) := by
  dsimp only [vdats]

theorem vafter0_0 (c : Dev nD) (t : Fin cfg0.N) : (vdats m 0 c).after 0 t = iblk m c 0 t := by dsimp only [vdats]
theorem vafter0_1 (c : Dev nD) (t : Fin cfg0.N) : (vdats m 0 c).after 1 t = iblk m c 1 t := by dsimp only [vdats]
theorem vafter0_2 (c : Dev nD) (t : Fin cfg0.N) : (vdats m 0 c).after 2 t = iblk m c 2 t := by dsimp only [vdats]
theorem vafter0_3 (c : Dev nD) (t : Fin cfg0.N) : (vdats m 0 c).after 3 t = iblk m c 3 t := by dsimp only [vdats]
theorem vafter0_4 (c : Dev nD) (t : Fin cfg0.N) : (vdats m 0 c).after 4 t = out4 m c t := by dsimp only [vdats]
theorem vafter0_5 (c : Dev nD) (t : Fin cfg0.N) : (vdats m 0 c).after 5 t = out5 m c t := by dsimp only [vdats]

/-- Each input's current staging buffer holds its block at every point. -/
theorem vbefore0_0 (c : Dev nD) (t : Fin cfg0.N) (d) : (vdats m 0 c).before 0 t d = iblk m c 0 t :=
  before0_0_of m (vdats m 0 c) (vA_eq m c 0) (vafter0_0 m c) t d
theorem vbefore0_1 (c : Dev nD) (t : Fin cfg0.N) (d) : (vdats m 0 c).before 1 t d = iblk m c 1 t :=
  before0_1_of m (vdats m 0 c) (vA_eq m c 1) (vafter0_1 m c) t d
theorem vbefore0_2 (c : Dev nD) (t : Fin cfg0.N) (d) : (vdats m 0 c).before 2 t d = iblk m c 2 t :=
  before0_2_of m (vdats m 0 c) (vA_eq m c 2) (vafter0_2 m c) t d
theorem vbefore0_3 (c : Dev nD) (t : Fin cfg0.N) (d) : (vdats m 0 c).before 3 t d = iblk m c 3 t :=
  before0_3_of m (vdats m 0 c) (vA_eq m c 3) (vafter0_3 m c) t d

/-- At the last point the buffer of window 5 holds the last block of the table, left at point 23. -/
theorem vbefore0_5_last (c : Dev nD) (d) : (vdats m 0 c).before 5 (pt 26 (by decide)) d = out5 m c (pt 26 (by decide)) := by
  have hN : cfg0.N = 27 := N_0
  rw [Dat.before_idle_run (vdats m 0 c) 5 (fun _ => rfl) d 2 (pt 26 (by decide)) (by show 2 ≤ 26; decide) (by
    intro j h1 h2
    have h1' : 26 - 2 ≤ j.val := h1
    have h2' : j.val < 26 := h2
    rw [idle0_5, flush0_5]
    exact ⟨decide_eq_true (by omega), decide_eq_false (by omega)⟩)]
  have e : (pt 24 (by decide) : Fin cfg0.N) = ⟨26 - 2, by omega⟩ := rfl
  rw [← e, Dat.before_of_pos (vdats m 0 c) 5 (pt 24 (by decide)) (by show ¬ 24 = 0; decide) rfl d,
    if_neg (by rw [flush0_5]; decide)]
  unfold Dat.left
  have hi : cfg0.idle 5 (cfg0.grid.coords (⟨24 - 1, Nat.lt_of_le_of_lt (Nat.sub_le _ _) (pt 24 (by decide)).isLt⟩ : Fin cfg0.N)) = false :=
    (idle0_5 _).trans (by decide)
  refine (congrArg (fun b : Bool => match b with
    | true => (vdats m 0 c).before 5 (⟨24 - 1, Nat.lt_of_le_of_lt (Nat.sub_le _ _) (pt 24 (by decide)).isLt⟩ : Fin cfg0.N) d
    | false => (vdats m 0 c).kept 5 (⟨24 - 1, Nat.lt_of_le_of_lt (Nat.sub_le _ _) (pt 24 (by decide)).isLt⟩ : Fin cfg0.N) d) hi).trans ?_
  unfold Dat.kept
  refine (Pipeline.fill_of_clip_none (cfg := cfg0) 5 _ (fun _ => rfl) d ((vdats m 0 c).after 5 (pt 23 (by decide))) _).trans ?_
  refine (Pipeline.Window.fill_cut _ _ _).trans ?_
  rw [vafter0_5]
  rfl

/-! ## The body at every point -/

theorem le0 (c : Dev nD) (t : Fin cfg0.N) : (vdats m 0 c).leavesExact 0 t = owns (c : Thread nD τ) (ms0_0 t) fullShare (iblk m c 0 t) := by
  unfold Dat.leavesExact; rw [liveAt0_0 t, vafter0_0]
theorem le1 (c : Dev nD) (t : Fin cfg0.N) : (vdats m 0 c).leavesExact 1 t = owns (c : Thread nD τ) (ms0_1 t) fullShare (iblk m c 1 t) := by
  unfold Dat.leavesExact; rw [liveAt0_1 t, vafter0_1]
theorem le2 (c : Dev nD) (t : Fin cfg0.N) : (vdats m 0 c).leavesExact 2 t = owns (c : Thread nD τ) (ms0_2 t) fullShare (iblk m c 2 t) := by
  unfold Dat.leavesExact; rw [liveAt0_2 t, vafter0_2]
theorem le3 (c : Dev nD) (t : Fin cfg0.N) : (vdats m 0 c).leavesExact 3 t = owns (c : Thread nD τ) (ms0_3 t) fullShare (iblk m c 3 t) := by
  unfold Dat.leavesExact; rw [liveAt0_3 t, vafter0_3]
theorem le4 (c : Dev nD) (t : Fin cfg0.N) (h : 3 ≤ t.val) : (vdats m 0 c).leavesExact 4 t = owns (c : Thread nD τ) (ms0_4 t) fullShare (out4 m c t) := by
  unfold Dat.leavesExact; rw [(idle0_4 t).trans (decide_eq_false (by omega)), vafter0_4]
theorem le5 (c : Dev nD) (t : Fin cfg0.N) (h : t.val < 24) : (vdats m 0 c).leavesExact 5 t = owns (c : Thread nD τ) (ms0_5 t) fullShare (out5 m c t) := by
  unfold Dat.leavesExact; rw [(idle0_5 t).trans (decide_eq_false (by omega)), vafter0_5]
/-- Before point 3 window 4 is handed back as found. -/
theorem le4_idle (c : Dev nD) (t : Fin cfg0.N) (h : t.val < 3) (d) :
    owns (c : Thread nD τ) (ms0_4 t) fullShare ((vdats m 0 c).before 4 t d) ⊢ (vdats m 0 c).leavesExact 4 t := by
  rw [Dat.leavesExact_idle _ 4 t ((idle0_4 t).trans (decide_eq_true h)) ((flush0_4 t).trans (decide_eq_false (by omega)))]
  iintro H; iexists d; iexact H
/-- From point 24 on window 5 is handed back as found; at the last point that is the last block of the table. -/
theorem le5_idle (c : Dev nD) (t : Fin cfg0.N) (h : 24 ≤ t.val) (d) :
    owns (c : Thread nD τ) (ms0_5 t) fullShare ((vdats m 0 c).before 5 t d) ⊢ (vdats m 0 c).leavesExact 5 t := by
  have hN : t.val < 27 := lt_of_lt_of_eq t.isLt N_0
  by_cases e : t.val = 26
  · obtain rfl : t = pt 26 (by decide) := Fin.ext e
    rw [vbefore0_5_last]
    unfold Dat.leavesExact
    rw [(idle0_5 _).trans (decide_eq_true h), (flush0_5 _).trans (decide_eq_true (Or.inr e)), vafter0_5]
  · rw [Dat.leavesExact_idle _ 5 t ((idle0_5 t).trans (decide_eq_true h)) ((flush0_5 t).trans (decide_eq_false (by omega)))]
    iintro H; iexists d; iexact H

/-- What the body is called with at point `t`, -/
def vbodyPre (c : Dev nD) (t : Fin cfg0.N) : sProp 𝕄 :=
  iprop((vdats m 0 c).Φ t.castSucc ∗ (vdats m 0 c).owesAt () t.castSucc
    ∗ (∃ d, owns (c : Thread nD τ) (ms0_0 t) fullShare ((vdats m 0 c).before 0 t d))
    ∗ (∃ d, owns (c : Thread nD τ) (ms0_1 t) fullShare ((vdats m 0 c).before 1 t d))
    ∗ (∃ d, owns (c : Thread nD τ) (ms0_2 t) fullShare ((vdats m 0 c).before 2 t d))
    ∗ (∃ d, owns (c : Thread nD τ) (ms0_3 t) fullShare ((vdats m 0 c).before 3 t d))
    ∗ (∃ d, owns (c : Thread nD τ) (ms0_4 t) fullShare ((vdats m 0 c).before 4 t d))
    ∗ (∃ d, owns (c : Thread nD τ) (ms0_5 t) fullShare ((vdats m 0 c).before 5 t d)))

/-- and what it returns. -/
def vbodyPost (c : Dev nD) (t : Fin cfg0.N) : sProp 𝕄 :=
  iprop((vdats m 0 c).Φ t.succ ∗ (vdats m 0 c).owesAt () t.succ
    ∗ (vdats m 0 c).leavesExact 0 t
    ∗ (vdats m 0 c).leavesExact 1 t
    ∗ (vdats m 0 c).leavesExact 2 t
    ∗ (vdats m 0 c).leavesExact 3 t
    ∗ (vdats m 0 c).leavesExact 4 t
    ∗ (vdats m 0 c).leavesExact 5 t)

set_option maxHeartbeats 1600000 in
/-- The body at the first point. -/
theorem vsound_A (c : Dev nD) (t : Fin cfg0.N) (h0 : t.val = 0) :
    vbodyPre m c t ⊢ wp frame (wpE (defs₀ (F := Ideal)) Variants.none c none) Set.univ (bodyAt0 t) (fun _ => vbodyPost m c t) := by
  have hN : t.val < 27 := lt_of_lt_of_eq t.isLt N_0
  have hi : (grid0.coords t 0).val = t.val := coords_eq t
  unfold vbodyPre vbodyPost bodyAt0
  simp only [vbefore0_0, vbefore0_1, vbefore0_2, vbefore0_3]
  rw [le0, le1, le2, le3, le5 m c t (by omega), iblk_1, iblk_2, iblk_3, show (vdats m 0 c).owesAt () t.succ = (vdats m 0 c).owesAt () t.castSucc from rfl,
    show (vdats m 0 c).Φ t.castSucc = PhiV m c t.val from rfl, show (vdats m 0 c).Φ t.succ = PhiV m c (t.val + 1) from rfl]
  unfold PhiV
  iintro ⟨⟨⟨%s7, %s8, %s9, %s10, %hI, HS0, HS1, HS2, HS3⟩, Hg⟩, Ho, ⟨%d0, H0⟩, ⟨%d1, H1⟩, ⟨%d2, H2⟩, ⟨%d3, H3⟩, ⟨%d4, H4⟩, ⟨%d5, H5⟩⟩
  iapply ((valueRun0_A c (grid0.coords t) _ _ _ _ _ _ _ _ _ _ _ _ _ _ _ _ _ _ _ _ ((hcond0_0 t).mpr (by omega)) ((hcond0_1 t).mpr (by omega)) ((hcond0_2 t).mpr (by omega)) (fun h => by have := (hcond0_3 t).mp h; omega) (by omega) (iblk m c 0 t) (X1 m c) (X2 m c) (X3 m c) ((vdats m 0 c).before 4 t d4) ((vdats m 0 c).before 5 t d5) s7 s8 s9 s10) Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  iintro ⟨H0, H1, H2, H3, H4, H5, HS0, HS1, HS2, HS3⟩
  have ho : out5 m c t = lutOf (iblk m c 0 t) (cbS (X1 m c)) := by
    unfold out5
    have hm : min t.val 23 = t.val := by omega
    simp only [hm]
    rfl
  have hI' : Inv (QB m c) (X1 m c) (X2 m c) (X3 m c) (t.val + 1) (qPut s7 (grid0.coords t) (iblk m c 0 t)) (cbS (X1 m c)) (wPut (fun _ => 0) (grid0.coords t) (X1 m c) (X2 m c)) (nPut s10 (grid0.coords t) (X2 m c) (X3 m c)) := by
    rw [h0] at hI ⊢
    exact inv_A (grid0.coords t) ⟨t.val, by omega⟩ h0 (hi.trans h0) hI
  isplitl [HS0 HS1 HS2 HS3 Hg]
  · isplitl [HS0 HS1 HS2 HS3]
    · iexists _; iexists _; iexists _; iexists _
      isplitr
      · ipureintro; exact hI'
      isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iapply (le4_idle m c t (by omega) d4); iexact H4
  rw [ho]; iexact H5

set_option maxHeartbeats 1600000 in
/-- The body at a later point before 3. -/
theorem vsound_B (c : Dev nD) (t : Fin cfg0.N) (h0 : ¬ t.val = 0) (h3 : t.val < 3) :
    vbodyPre m c t ⊢ wp frame (wpE (defs₀ (F := Ideal)) Variants.none c none) Set.univ (bodyAt0 t) (fun _ => vbodyPost m c t) := by
  have hN : t.val < 27 := lt_of_lt_of_eq t.isLt N_0
  have hi : (grid0.coords t 0).val = t.val := coords_eq t
  unfold vbodyPre vbodyPost bodyAt0
  simp only [vbefore0_0, vbefore0_1, vbefore0_2, vbefore0_3]
  rw [le0, le1, le2, le3, le5 m c t (by omega), iblk_1, iblk_2, iblk_3, show (vdats m 0 c).owesAt () t.succ = (vdats m 0 c).owesAt () t.castSucc from rfl,
    show (vdats m 0 c).Φ t.castSucc = PhiV m c t.val from rfl, show (vdats m 0 c).Φ t.succ = PhiV m c (t.val + 1) from rfl]
  unfold PhiV
  iintro ⟨⟨⟨%s7, %s8, %s9, %s10, %hI, HS0, HS1, HS2, HS3⟩, Hg⟩, Ho, ⟨%d0, H0⟩, ⟨%d1, H1⟩, ⟨%d2, H2⟩, ⟨%d3, H3⟩, ⟨%d4, H4⟩, ⟨%d5, H5⟩⟩
  iapply ((valueRun0_B c (grid0.coords t) _ _ _ _ _ _ _ _ _ _ _ _ _ _ _ _ _ _ _ _ (fun h => by have := (hcond0_0 t).mp h; omega) ((hcond0_1 t).mpr (by omega)) ((hcond0_2 t).mpr (by omega)) (fun h => by have := (hcond0_3 t).mp h; omega) (by omega) (iblk m c 0 t) (X1 m c) (X2 m c) (X3 m c) ((vdats m 0 c).before 4 t d4) ((vdats m 0 c).before 5 t d5) s7 s8 s9 s10) Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  iintro ⟨H0, H1, H2, H3, H4, H5, HS0, HS1, HS2, HS3⟩
  have ho : out5 m c t = lutOf (iblk m c 0 t) (cbS (X1 m c)) := by
    unfold out5
    have hm : min t.val 23 = t.val := by omega
    simp only [hm]
    rfl
  have hcb : s8 = cbS (X1 m c) := hI.cb (by omega)
  have hI' : Inv (QB m c) (X1 m c) (X2 m c) (X3 m c) (t.val + 1) (qPut s7 (grid0.coords t) (iblk m c 0 t)) s8 (wPut s9 (grid0.coords t) (X1 m c) (X2 m c)) (nPut s10 (grid0.coords t) (X2 m c) (X3 m c)) :=
    inv_B (by omega) h3 (grid0.coords t) ⟨t.val, by omega⟩ rfl hi hI
  isplitl [HS0 HS1 HS2 HS3 Hg]
  · isplitl [HS0 HS1 HS2 HS3]
    · iexists _; iexists _; iexists _; iexists _
      isplitr
      · ipureintro; exact hI'
      isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iapply (le4_idle m c t (by omega) d4); iexact H4
  rw [ho, ← hcb]; iexact H5

set_option maxHeartbeats 1600000 in
/-- The body at a point from 3 on, before 24. -/
theorem vsound_C (c : Dev nD) (t : Fin cfg0.N) (h3 : 3 ≤ t.val) (h24 : t.val < 24) :
    vbodyPre m c t ⊢ wp frame (wpE (defs₀ (F := Ideal)) Variants.none c none) Set.univ (bodyAt0 t) (fun _ => vbodyPost m c t) := by
  have hN : t.val < 27 := lt_of_lt_of_eq t.isLt N_0
  have hi : (grid0.coords t 0).val = t.val := coords_eq t
  unfold vbodyPre vbodyPost bodyAt0
  simp only [vbefore0_0, vbefore0_1, vbefore0_2, vbefore0_3]
  rw [le0, le1, le2, le3, le4 m c t (by omega), le5 m c t (by omega), iblk_1, iblk_2, iblk_3, show (vdats m 0 c).owesAt () t.succ = (vdats m 0 c).owesAt () t.castSucc from rfl,
    show (vdats m 0 c).Φ t.castSucc = PhiV m c t.val from rfl, show (vdats m 0 c).Φ t.succ = PhiV m c (t.val + 1) from rfl]
  unfold PhiV
  iintro ⟨⟨⟨%s7, %s8, %s9, %s10, %hI, HS0, HS1, HS2, HS3⟩, Hg⟩, Ho, ⟨%d0, H0⟩, ⟨%d1, H1⟩, ⟨%d2, H2⟩, ⟨%d3, H3⟩, ⟨%d4, H4⟩, ⟨%d5, H5⟩⟩
  iapply ((valueRun0_C c (grid0.coords t) _ _ _ _ _ _ _ _ _ _ _ _ _ _ _ _ _ _ _ _ (fun h => by have := (hcond0_0 t).mp h; omega) ((hcond0_1 t).mpr (by omega)) (fun h => by have := (hcond0_2 t).mp h; omega) ((hcond0_3 t).mpr (by omega)) (by omega) (iblk m c 0 t) (X1 m c) (X2 m c) (X3 m c) ((vdats m 0 c).before 5 t d5) s7 s8 s9 s10) Set.univ _)
  isplitl [H0]; · iexact H0
  isplitl [H1]; · iexact H1
  isplitl [H2]; · iexact H2
  isplitl [H3]; · iexact H3
  isplitl [H4]; · iexists _; iexact H4
  isplitl [H5]; · iexact H5
  isplitl [HS0]; · iexact HS0
  isplitl [HS1]; · iexact HS1
  isplitl [HS2]; · iexact HS2
  isplitl [HS3]; · iexact HS3
  iintro ⟨H0, H1, H2, H3, H4, H5, HS0, HS1, HS2, HS3⟩
  have ho : out5 m c t = lutOf (iblk m c 0 t) (cbS (X1 m c)) := by
    unfold out5
    have hm : min t.val 23 = t.val := by omega
    simp only [hm]
    rfl
  have ho4 : out4 m c t = distOf (qRows s7 (grid0.coords t)) s9 s10 := (dist_inv (by omega) hN (grid0.coords t) hi hI).symm
  have hcb : s8 = cbS (X1 m c) := hI.cb (by omega)
  have hI' : Inv (QB m c) (X1 m c) (X2 m c) (X3 m c) (t.val + 1) (qPut s7 (grid0.coords t) (iblk m c 0 t)) s8 s9 s10 :=
    inv_C (by omega) (grid0.coords t) ⟨t.val, by omega⟩ rfl hi hI
  isplitl [HS0 HS1 HS2 HS3 Hg]
  · isplitl [HS0 HS1 HS2 HS3]
    · iexists _; iexists _; iexists _; iexists _
      isplitr
      · ipureintro; exact hI'
      isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · rw [ho4]; iexact H4
  rw [ho, ← hcb]; iexact H5

set_option maxHeartbeats 1600000 in
/-- The body at a point from 24 on. -/
theorem vsound_D (c : Dev nD) (t : Fin cfg0.N) (h24 : 24 ≤ t.val) :
    vbodyPre m c t ⊢ wp frame (wpE (defs₀ (F := Ideal)) Variants.none c none) Set.univ (bodyAt0 t) (fun _ => vbodyPost m c t) := by
  have hN : t.val < 27 := lt_of_lt_of_eq t.isLt N_0
  have hi : (grid0.coords t 0).val = t.val := coords_eq t
  unfold vbodyPre vbodyPost bodyAt0
  simp only [vbefore0_0, vbefore0_1, vbefore0_2, vbefore0_3]
  rw [le0, le1, le2, le3, le4 m c t (by omega), iblk_1, iblk_2, iblk_3, show (vdats m 0 c).owesAt () t.succ = (vdats m 0 c).owesAt () t.castSucc from rfl,
    show (vdats m 0 c).Φ t.castSucc = PhiV m c t.val from rfl, show (vdats m 0 c).Φ t.succ = PhiV m c (t.val + 1) from rfl]
  unfold PhiV
  iintro ⟨⟨⟨%s7, %s8, %s9, %s10, %hI, HS0, HS1, HS2, HS3⟩, Hg⟩, Ho, ⟨%d0, H0⟩, ⟨%d1, H1⟩, ⟨%d2, H2⟩, ⟨%d3, H3⟩, ⟨%d4, H4⟩, ⟨%d5, H5⟩⟩
  iapply ((valueRun0_D c (grid0.coords t) _ _ _ _ _ _ _ _ _ _ _ _ _ _ _ _ _ _ _ _ (fun h => by have := (hcond0_0 t).mp h; omega) (fun h => by have := (hcond0_1 t).mp h; omega) (fun h => by have := (hcond0_2 t).mp h; omega) ((hcond0_3 t).mpr (by omega)) (by omega) (iblk m c 0 t) (X1 m c) (X2 m c) (X3 m c) ((vdats m 0 c).before 5 t d5) s7 s8 s9 s10) Set.univ _)
  isplitl [H0]; · iexact H0
  isplitl [H1]; · iexact H1
  isplitl [H2]; · iexact H2
  isplitl [H3]; · iexact H3
  isplitl [H4]; · iexists _; iexact H4
  isplitl [H5]; · iexact H5
  isplitl [HS0]; · iexact HS0
  isplitl [HS1]; · iexact HS1
  isplitl [HS2]; · iexact HS2
  isplitl [HS3]; · iexact HS3
  iintro ⟨H0, H1, H2, H3, H4, H5, HS0, HS1, HS2, HS3⟩
  have ho4 : out4 m c t = distOf (qRows s7 (grid0.coords t)) s9 s10 := (dist_inv (by omega) hN (grid0.coords t) hi hI).symm
  have hI' : Inv (QB m c) (X1 m c) (X2 m c) (X3 m c) (t.val + 1) s7 s8 s9 s10 := inv_D h24 hI
  isplitl [HS0 HS1 HS2 HS3 Hg]
  · isplitl [HS0 HS1 HS2 HS3]
    · iexists _; iexists _; iexists _; iexists _
      isplitr
      · ipureintro; exact hI'
      isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · rw [ho4]; iexact H4
  iapply (le5_idle m c t (by omega) d5); iexact H5

/-- The body at any point. -/
theorem vsound_body (c : Dev nD) (t : Fin cfg0.N) :
    vbodyPre m c t ⊢ wp frame (wpE (defs₀ (F := Ideal)) Variants.none c none) Set.univ (bodyAt0 t) (fun _ => vbodyPost m c t) := by
  have hN : t.val < 27 := lt_of_lt_of_eq t.isLt N_0
  by_cases h0 : t.val = 0
  · exact vsound_A m c t h0
  · by_cases h3 : t.val < 3
    · exact vsound_B m c t h0 h3
    · by_cases h24 : t.val < 24
      · exact vsound_C m c t (by omega) h24
      · exact vsound_D m c t (by omega)

/-- The body table's row at point `t`'s slots is the body as `bodyAt0` spells it. -/
theorem vdefs_row (t : Fin cfg0.N) :
    defs₀ (F := Ideal) .tc cfg0.body (cfg0.bodyArgs t (cfg0.slots t)) = bodyAt0 t := by
  unfold defs₀; rw [Defs.onTc_tc]

/-- The library's body obligation, at every point. -/
theorem vbody_obligation (c : Dev nD) : BodyObligation (vdats m 0 c) (defs₀ (F := Ideal)) Variants.none () Set.univ := fun t => by
  rw [bigSep_W0, bigSep_W0, vdefs_row]
  exact triple_restated (vsound_body m c t) rfl .rfl fun _ => .rfl

end Cert.KernelIdeal.Own

end
-- ==== Proof.KernelIdealArrays.lean ====
/- What the kernel over the extended reals leaves in its two results, in the terms of its four arguments. -/
module

public import proofs.«01_k».proof.Proof.KernelIdealData
public import Idealize.ShloMosaic.Lib.Claim

@[expose] public section

-- membership in a rectangle of production extents (`View.cover_of_tiled`): the elaborator's structural look
-- recurses once per coordinate of the long axes
set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The run -/

/-- The scratch at any contents starts the invariant, -/
theorem phi_in (c : Dev nD) : (Pipeline.ΦA spec0 c : sProp 𝕄) ⊢ PhiV m c 0 := by
  rw [PhiA0_eq]
  unfold PhiV
  iintro ⟨⟨⟨%s7, HS0⟩, ⟨%s8, HS1⟩, ⟨%s9, HS2⟩, ⟨%s10, HS3⟩⟩, Hg⟩
  isplitl [HS0 HS1 HS2 HS3]
  · iexists s7; iexists s8; iexists s9; iexists s10
    isplitr
    · ipureintro; exact inv_zero
    isplitl [HS0]; · iexact HS0
    isplitl [HS1]; · iexact HS1
    isplitl [HS2]; · iexact HS2
    iexact HS3
  iexact Hg
/-- and what it says at the end is dropped. -/
theorem phi_out (c : Dev nD) (n : ℕ) : PhiV m c n ⊢ (Pipeline.ΦA spec0 c : sProp 𝕄) := by
  rw [PhiA0_eq]
  unfold PhiV
  iintro ⟨⟨%s7, %s8, %s9, %s10, %hI, HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

set_option backward.isDefEq.respectTransparency.types false in
set_option maxHeartbeats 800000 in
/-- Every run ends with the arrays at the contents the proof data names. -/
theorem vrun_main : θ_run defs (onTc (τ := τ) (main (F := Ideal))) (s₀ m ρ)
    (Pipeline.FramePost cfgs (vdats m) 0 (Pipeline.afterTail₀ cfgs (vdats m) 0 (V0 m) [hostOps1])) :=
  Pipeline.θ_run_frame_around_track (Q' := _) cfgs (vdats m) (0 : Fin 1) launch0 defs₀ Variants.none m ρ main
    (hbody := fun c => (vbody_obligation m c).loose) (hshare := fun c => (vdats m 0 c).share_full fun _ => rfl)
    (howed := fun _ _ => rfl) (V₀ := V0 m) (opss := [hostOps1]) (hsub := sfx_sub) (hfresh := sfx_fresh) (hkeep := sfx_keeps)
    (hmain := hmain m Variants.none) (hA := vA_eq m) (hin := phi_in m) (hout := fun c => phi_out m c _)

/-! ## The two results -/

theorem idx0 : ∀ t : Fin cfg0.N, win0_0.index t = ![0, min t.val 23] :=
  (by decide +kernel : ∀ t : Fin grid0.N, win0_0.index t = ![0, min t.val 23])
theorem idx4 : ∀ t : Fin cfg0.N, win0_4.index t = ![t.val - 3, 0] :=
  (by decide +kernel : ∀ t : Fin grid0.N, win0_4.index t = ![t.val - 3, 0])
theorem idx5 : ∀ t : Fin cfg0.N, win0_5.index t = ![0, min t.val 23, 0] :=
  (by decide +kernel : ∀ t : Fin grid0.N, win0_5.index t = ![0, min t.val 23, 0])

/-- The distances: row `y 0` is row `y 0 mod 256` of query block `y 0 / 256`. -/
def distArr (c : Dev nD) : Vec Ideal S6144x4992 .f32 := fun y =>
  distBlk (QB m c ⟨(y 0).val / 256, by have h : (y 0).val < 6144 := (y 0).isLt; omega⟩) (X1 m c) (X2 m c) (X3 m c)
    (ix2 ⟨(y 0).val % 256, Nat.mod_lt _ (by decide)⟩ (y 1))

/-- The table of products as the region writes it. -/
def lutArr (c : Dev nD) : Vec Ideal S12x6144x256 .f32 := fun y =>
  lutOf (QB m c ⟨(y 1).val / 256, by have h : (y 1).val < 6144 := (y 1).isLt; omega⟩) (cbS (X1 m c))
    (ix3 (y 0) ⟨(y 1).val % 256, Nat.mod_lt _ (by decide)⟩ (y 2))

theorem arr4_eq (c : Dev nD) : (vdats m 0 c).arrAt 4 cfg0.N = distArr m c := by
  refine (vdats m 0 c).arrAt_eq_of_covers 4 _ (by decide +kernel) fun t hf y => ?_
  have ht : t.val < 27 := lt_of_lt_of_eq t.isLt N_0
  have h3 : 3 ≤ t.val := of_decide_eq_true ((flush0_4 t).symm.trans hf)
  have hy : (y 0).val < 256 := (y 0).isLt
  have e0 : (((win0_4.blk t).view.emb y) 0).val = (t.val - 3) * 256 + (y 0).val := by blk_simp [idx4 t]; try rfl
  have e1 : (((win0_4.blk t).view.emb y) 1).val = (y 1).val := by blk_simp [idx4 t]; try simp
  blk_simp
  rw [vafter0_4]
  unfold out4 distArr
  have hb : (⟨t.val - 3, by omega⟩ : Fin 24) = ⟨((win0_4.blk t).view.emb y 0).val / 256, by rw [e0]; omega⟩ := Fin.ext (by simp only [e0]; omega)
  have hr : y = ix2 (⟨((win0_4.blk t).view.emb y 0).val % 256, Nat.mod_lt _ (by decide)⟩ : Fin 256) ((win0_4.blk t).view.emb y 1) := by
    refine (eq_ix2 y).trans ?_
    congr 1
    · exact Fin.ext (by simp only [e0]; omega)
    · exact Fin.ext e1.symm
  rw [hb]
  exact congrArg _ hr

theorem arr5_eq (c : Dev nD) : (vdats m 0 c).arrAt 5 cfg0.N = lutArr m c := by
  refine (vdats m 0 c).arrAt_eq_of_covers 5 _ (by decide +kernel) fun t hf y => ?_
  have ht : t.val < 27 := lt_of_lt_of_eq t.isLt N_0
  have hy : (y 1).val < 256 := (y 1).isLt
  have e0 : (((win0_5.blk t).view.emb y) 0).val = (y 0).val := by blk_simp [idx5 t]; try simp
  have e1 : (((win0_5.blk t).view.emb y) 1).val = (min t.val 23) * 256 + (y 1).val := by blk_simp [idx5 t]; try rfl
  have e2 : (((win0_5.blk t).view.emb y) 2).val = (y 2).val := by blk_simp [idx5 t]; try simp
  blk_simp
  rw [vafter0_5]
  unfold out5 lutArr
  have hb : (⟨min t.val 23, by omega⟩ : Fin 24) = ⟨((win0_5.blk t).view.emb y 1).val / 256, by rw [e1]; omega⟩ := Fin.ext (by simp only [e1]; omega)
  have hr : y = ix3 ((win0_5.blk t).view.emb y 0) (⟨((win0_5.blk t).view.emb y 1).val % 256, Nat.mod_lt _ (by decide)⟩ : Fin 256) ((win0_5.blk t).view.emb y 2) := by
    refine (eq_ix3 y).trans ?_
    congr 1
    · exact Fin.ext e0.symm
    · exact Fin.ext (by simp only [e1]; omega)
    · exact Fin.ext e2.symm
  rw [hb]
  exact congrArg _ hr

/-! ## The arrays the region reads, from the arguments -/

theorem V_v0 (c : Dev nD) : V m c main_v0 = transpose S200x6144 [1, 0] (m ((c : Thread nD τ).loc main_arg0)) transposes_S6144x200_S200x6144_1_0 := by
  show StableHlo.after hostOps0 (fun b => m (c, b)) _ = _; after_results
theorem V_v1 (c : Dev nD) : V m c main_v1 = transpose S12x200x256 [0, 2, 1] (m ((c : Thread nD τ).loc main_arg1)) transposes_S12x256x200_S12x200x256_0_2_1 := by
  show StableHlo.after hostOps0 (fun b => m (c, b)) _ = _; after_results
theorem V_v3 (c : Dev nD) : V m c main_v3 = transpose S4x4992 [1, 0] (m ((c : Thread nD τ).loc main_arg2)) transposes_S4992x4_S4x4992_1_0 := by
  show StableHlo.after hostOps0 (fun b => m (c, b)) _ = _; after_results; rfl
theorem V_v4 (c : Dev nD) : V m c main_v4 = shapeCast S1x256 (m ((c : Thread nD τ).loc main_arg3)) shapeCasts_S256_S1x256 := by
  show StableHlo.after hostOps0 (fun b => m (c, b)) _ = _; after_results; rfl

theorem QB_apply (c : Dev nD) (b : Fin 24) (K : Fin 200) (r : Fin 256) :
    QB m c b (ix2 K r) = m ((c : Thread nD τ).loc main_arg0) (ix2 ⟨256 * b.val + r.val, by omega⟩ K) := by
  have hb : b.val < 24 := b.isLt
  have e : QB m c b (ix2 K r) = V m c main_v0 (ix2 K ⟨256 * b.val + r.val, by omega⟩) := by
    unfold QB
    blk_ext [iblk, idx0]
  rw [e, V_v0]
  pointwise
theorem X1_apply (c : Dev nD) (b : Fin 12) (K : Fin 200) (k : Fin 256) :
    X1 m c (ix3 b K k) = m ((c : Thread nD τ).loc main_arg1) (ix3 b k K) := by
  unfold X1
  rw [V_v1]
  pointwise
theorem X2_apply (c : Dev nD) (a : Fin 4) (n : Fin 4992) :
    X2 m c (ix2 a n) = m ((c : Thread nD τ).loc main_arg2) (ix2 n a) := by
  unfold X2
  rw [V_v3]
  pointwise
theorem X3_apply (c : Dev nD) (k : Fin 256) :
    X3 m c (ix2 0 k) = m ((c : Thread nD τ).loc main_arg3) (ix1 k) := by
  unfold X3
  rw [V_v4]
  pointwise

/-- The table of products as @main returns it. -/
theorem tail_v6 (c : Dev nD) (n : Fin 6144) (b : Fin 12) (k : Fin 256) :
    Pipeline.afterTail₀ cfgs (vdats m) 0 (V0 m) [hostOps1] c main_v6 (ix3 n b k) = lutArr m c (ix3 b n k) := by
  have e : Pipeline.afterTail₀ cfgs (vdats m) 0 (V0 m) [hostOps1] c main_v6
      = transpose S6144x12x256 [1, 0, 2] ((vdats m 0 c).arrAt 5 cfg0.N) transposes_S12x6144x256_S6144x12x256_1_0_2 := by
    unfold Pipeline.afterTail₀
    after_results
    exact congrArg (transpose S6144x12x256 [1, 0, 2] · transposes_S12x6144x256_S6144x12x256_1_0_2)
      (Pipeline.withArrays_arr spec0 launch0.win.arr_inj c (V0 m c) (fun w => (vdats m 0 c).arrAt w cfg0.N) 5)
  rw [e, arr5_eq]
  pointwise

end Cert.KernelIdeal.Own

end
-- ==== Proof.KernelIdealValues.lean ====
/- The run of the kernel over the extended reals with the contents of both results; the table of products is the plain one. -/
module

public import proofs.«01_k».proof.Proof.KernelIdealArrays
public import Idealize.ShloMosaic.Lib.Claim

@[expose] public section

-- membership in a rectangle of production extents (`View.cover_of_tiled`): the elaborator's structural look
-- recurses once per coordinate of the long axes
set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- A sum whose terms past the first `a` are zero is the sum of the first `a`. -/
theorem sum_pad {a b : ℕ} (hab : a ≤ b) (f : Fin a → EReal) :
    (∑ K : Fin b, if h : K.val < a then f ⟨K.val, h⟩ else 0) = ∑ K : Fin a, f K := by
  obtain ⟨d, rfl⟩ := Nat.exists_eq_add_of_le hab
  rw [Fin.sum_univ_add]
  have h1 : ∀ i : Fin a, (if h : (Fin.castAdd d i).val < a then f ⟨(Fin.castAdd d i).val, h⟩ else 0) = f i := fun i => by
    rw [dif_pos (show (Fin.castAdd d i).val < a from i.isLt)]; rfl
  have h2 : ∀ i : Fin d, (if h : (Fin.natAdd a i).val < a then f ⟨(Fin.natAdd a i).val, h⟩ else (0 : EReal)) = 0 := fun i =>
    dif_neg (by simp)
  simp only [h1, h2, Finset.sum_const_zero, add_zero]

/-- The arguments of the kernel at their types: the queries, -/
def A0 (c : Dev nD) : Vec Ideal S6144x200 .bf16 := m ((c : Thread nD τ).loc main_arg0)
/-- the codebooks, -/
def A1 (c : Dev nD) : Vec Ideal S12x256x200 .bf16 := m ((c : Thread nD τ).loc main_arg1)
/-- the packed codes -/
def A2 (c : Dev nD) : Vec Ideal S4992x4 .i32 := m ((c : Thread nD τ).loc main_arg2)
/-- and the norms. -/
def A3 (c : Dev nD) : Vec Ideal S256 .f32 := m ((c : Thread nD τ).loc main_arg3)

/-- Query `n` at dimension `K`, zero past the 200 dimensions. -/
theorem qK_QB (c : Dev nD) (n : Fin 6144) (K : Fin 256) :
    qK (QB m c ⟨n.val / 256, by omega⟩) ⟨n.val % 256, Nat.mod_lt _ (by decide)⟩ K
      = if h : K.val < 200 then (A0 m c (ix2 n ⟨K.val, h⟩) : EReal) else 0 := by
  unfold qK
  split
  · rw [QB_apply]
    unfold A0
    congr 2
    exact Fin.ext (Nat.div_add_mod n.val 256)
  · rfl

/-- The table's place of query `n`, book `b` and entry `k` is the product of the query with the entry. -/
theorem lutArr_apply (c : Dev nD) (n : Fin 6144) (b : Fin 12) (k : Fin 256) :
    lutArr m c (ix3 b n k)
      = ∑ K : Fin 200, (A0 m c (ix2 n K) * A1 m c (ix3 b k K) : EReal) := by
  rw [← sum_pad (show 200 ≤ 256 by decide)]
  show (∑ K : Fin 256, qK (QB m c ⟨n.val / 256, _⟩) ⟨n.val % 256, _⟩ K * cbK (X1 m c) b K k) = _
  refine Finset.sum_congr rfl fun K _ => ?_
  rw [qK_QB]
  unfold cbK
  split
  · rw [X1_apply]; rfl
  · exact mul_zero _

/-- The kernel's second result, as a function of its arguments. -/
def lutRes (x0 : Vec Ideal S6144x200 .bf16) (x1 : Vec Ideal S12x256x200 .bf16) : Vec Ideal S6144x12x256 .f32 :=
  fun j => ∑ K : Fin 200, ((x0 (ix2 (j 0) K) * x1 (ix3 (j 1) (j 2) K) : EReal))

/-- Every run ends with the distances in the first result, the table of products in the second and the arguments unchanged. -/
theorem run_values : θ_run defs (onTc (τ := τ) (main (F := Ideal))) ⟨m, fun _ => 0, ρ⟩ (fun r => ∀ c : Dev nD,
      r.2.mem ((c.tc : Thread nD τ).loc main_v5_0) = distArr m c
      ∧ r.2.mem ((c.tc : Thread nD τ).loc main_v6) = lutRes (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 4).trans (arr4_eq m c),
      ((h c).2 main_v6 (Pipeline.mem_restRefs_of main_v6 (by decide) (by decide))).trans (funext fun j =>
        (congrArg _ (eq_ix3 j)).trans ((tail_v6 m c (j 0) (j 1) (j 2)).trans (lutArr_apply m c (j 0) (j 1) (j 2)))),
      ((h c).2 main_arg0 (Pipeline.mem_restRefs_of main_arg0 (by decide) (by decide))).trans (W_main_arg0 m (vdats m) c),
      ((h c).2 main_arg1 (Pipeline.mem_restRefs_of main_arg1 (by decide) (by decide))).trans (W_main_arg1 m (vdats m) c),
      ((h c).2 main_arg2 (Pipeline.mem_restRefs_of main_arg2 (by decide) (by decide))).trans (W_main_arg2 m (vdats m) c),
      ((h c).2 main_arg3 (Pipeline.mem_restRefs_of main_arg3 (by decide) (by decide))).trans (W_main_arg3 m (vdats m) c)⟩)
    (vrun_main m ρ)

end Cert.KernelIdeal.Own

end
-- ==== Proof.DistMath.lean ====
/- The arithmetic of the distances, apart from the programs: the codes in a word, and the two forms of one distance. -/
module

public import Idealize.ShloMosaic.PureOps
public import Idealize.ShloMosaic.PureOps.Ideal.Laws

@[expose] public section

noncomputable section

namespace Cert.Own

open Idealize.ShloMosaic

/-! ## The code a word holds -/

/-- The eight bits from place `8 f` of a word. -/
def codeOf (w : BitVec 32) (f : ℕ) : Fin 256 := ⟨w.toNat / 2 ^ (8 * f) % 256, Nat.mod_lt _ (by decide)⟩

theorem toNat_and_255 (v : BitVec 32) : (v &&& 255#32).toNat = v.toNat % 256 := by
  rw [BitVec.toNat_and]
  exact Nat.and_two_pow_sub_one_eq_mod v.toNat 8

/-- Below the sign's copies, the two right shifts have the same bits. -/
theorem sshiftRight_and_255 (w : BitVec 32) (s : ℕ) (hs : s ≤ 24) : (w.sshiftRight s &&& 255#32) = (w >>> s &&& 255#32) := by
  apply BitVec.eq_of_getLsbD_eq
  intro i hi
  rw [BitVec.getLsbD_and, BitVec.getLsbD_and, BitVec.getLsbD_sshiftRight, BitVec.getLsbD_ushiftRight]
  by_cases h8 : i < 8
  · have h1 : ¬ 32 ≤ i := by omega
    have h2 : s + i < 32 := by omega
    simp [h1, h2]
  · have h0 : (255#32).getLsbD i = false := by
      have : ∀ i : Fin 32, ¬ i.val < 8 → (255#32).getLsbD i.val = false := by decide
      exact this ⟨i, hi⟩ h8
    rw [h0, Bool.and_false, Bool.and_false]

theorem amount_toNat (f : ℕ) (hf : f < 4) : (BitVec.ofNat 32 (8 * f)).toNat = 8 * f := by
  rw [BitVec.toNat_ofNat]; omega

/-- The kernel's shift and mask give the code. -/
theorem shrsi_code (w : BitVec 32) (f : ℕ) (hf : f < 4) :
    (IntOp.shrsi ArithUnit.vector w (BitVec.ofNat 32 (8 * f))).toNat % 256 = (codeOf w f).val := by
  unfold IntOp.shrsi
  rw [if_pos (by rw [amount_toNat f hf]; omega), BitVec.sshiftRight', amount_toNat f hf, ← toNat_and_255,
    sshiftRight_and_255 w _ (by omega), toNat_and_255, BitVec.toNat_ushiftRight, Nat.shiftRight_eq_div_pow]
  rfl

/-- The reference's shift and mask give the code. -/
theorem shrui_code (w : BitVec 32) (f : ℕ) (hf : f < 4) :
    IntOp.andi (IntOp.shrui ArithUnit.host w (BitVec.ofNat 32 (8 * f))) 255#32 = BitVec.ofNat 32 (codeOf w f).val := by
  apply BitVec.eq_of_toNat_eq
  unfold IntOp.shrui IntOp.andi
  rw [if_pos (by rw [amount_toNat f hf]; omega), toNat_and_255]
  have e : (w >>> BitVec.ofNat 32 (8 * f)).toNat = w.toNat / 2 ^ (8 * f) := by
    rw [BitVec.ushiftRight_eq', BitVec.toNat_ushiftRight, amount_toNat f hf, Nat.shiftRight_eq_div_pow]
  have hc := (codeOf w f).isLt
  rw [e, BitVec.toNat_ofNat, Nat.mod_eq_of_lt (by omega : (codeOf w f).val < 2 ^ 32)]
  rfl

/-! ## Sums of real numbers among the extended reals -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The word for minus two. -/
theorem neg_two : Ideal.ofBits FTy.f32 3221225472#32 = ((-2 : ℝ) : EReal) := by
  simp [Ideal.ofBits, Ideal.ieee, -EReal.coe_mul]; norm_num
/-- The word for two. -/
theorem pos_two : Ideal.ofBits FTy.f32 0x40000000#32 = ((2 : ℝ) : EReal) := by
  simp [Ideal.ofBits, Ideal.ieee, -EReal.coe_mul]; norm_num

/-- The three parts of a finite number `h`: itself, then nothing. -/
theorem rest_zero (h : ℝ) : ((h : EReal) - (h : EReal)) = 0 := by
  rw [← EReal.coe_sub, sub_self]; rfl

/-- ONE DISTANCE, TWO WAYS. The kernel adds the squared query, the query times each of the three parts of minus twice the decoded
    vector, and the norm; the reference subtracts twice the sum, over the books, of the query's products with the coded entries. -/
theorem dist_eq (q : Fin 200 → ℝ) (e : Fin 12 → Fin 200 → ℝ) (x : EReal) :
    (∑ K : Fin 200, (q K : EReal) * (q K : EReal))
      + ((∑ K : Fin 200, (q K : EReal) * (((-2 : ℝ) : EReal) * ∑ b : Fin 12, (e b K : EReal)))
        + ((∑ K : Fin 200, (q K : EReal) * ((((-2 : ℝ) : EReal) * ∑ b : Fin 12, (e b K : EReal)) - (((-2 : ℝ) : EReal) * ∑ b : Fin 12, (e b K : EReal))))
          + ∑ K : Fin 200, (q K : EReal) * (((((-2 : ℝ) : EReal) * ∑ b : Fin 12, (e b K : EReal)) - (((-2 : ℝ) : EReal) * ∑ b : Fin 12, (e b K : EReal)))
              - ((((-2 : ℝ) : EReal) * ∑ b : Fin 12, (e b K : EReal)) - (((-2 : ℝ) : EReal) * ∑ b : Fin 12, (e b K : EReal))))))
      + x
    = (0 + ∑ K : Fin 200, (q K : EReal) * (q K : EReal))
        - ((2 : ℝ) : EReal) * (0 + ∑ b : Fin 12, ∑ K : Fin 200, (q K : EReal) * (e b K : EReal)) + x := by
  have hh : ∀ K : Fin 200, (((-2 : ℝ) : EReal) * ∑ b : Fin 12, (e b K : EReal)) = ((-2 * ∑ b : Fin 12, e b K : ℝ) : EReal) := fun K => by
    rw [EReal.coe_mul, coe_sum]
  have hz : ((0 : EReal) - 0) = 0 := by simp
  simp only [hh, rest_zero, hz, mul_zero, Finset.sum_const_zero, add_zero, zero_add, ← EReal.coe_mul, ← coe_sum, ← EReal.coe_add, ← EReal.coe_sub]
  congr 2
  rw [sub_eq_add_neg, Finset.sum_comm, Finset.mul_sum, ← Finset.sum_neg_distrib]
  congr 1
  refine Finset.sum_congr rfl fun K _ => ?_
  rw [← Finset.mul_sum]
  ring

end Cert.Own

end
-- ==== Proof.KernelIdealDist.lean ====
/- The kernel's distances at an index, where the query row and the codebooks are finite. -/
module

public import proofs.«01_k».proof.Proof.KernelIdealValues
public import proofs.«01_k».proof.Proof.DistMath

@[expose] public section

set_option maxRecDepth 16384

noncomputable section

namespace Cert.KernelIdeal.Own

open Cert.KernelIdeal.Gen Cert.Own
open Idealize.ShloMosaic Idealize.ShloMosaic.TcCoe Idealize.SL.Sem

variable (m : (ℓ : Loc nD τ sig) → Buf (Elt Ideal) ℓ)

/-- The code of vector `c` in place `b` of the sixteen. -/
def codeK (x2 : Vec Ideal S4992x4 .i32) (c : Fin 4992) (b : ℕ) (hb : b < 16) : Fin 256 := codeOf (x2 (ix2 c ⟨b / 4, by omega⟩)) (b % 4)

/-- The code the kernel looks up in a book. -/
theorem codeAt_X2 (d : Dev nD) (b : Fin 12) (c : Fin 4992) : codeAt (X2 m d) b c = codeK (A2 m d) c b.val (by omega) := by
  refine Fin.ext ?_
  show (IntOp.shrsi ArithUnit.vector (X2 m d (ix2 ⟨b.val / 4, _⟩ c)) (BitVec.ofNat 32 (8 * (b.val % 4)))).toNat % 256 = _
  rw [X2_apply, shrsi_code _ _ (Nat.mod_lt _ (by decide))]
  rfl

/-- The norm the kernel looks up. -/
theorem nrmW_X (d : Dev nD) (c : Fin 4992) : nrmW (X2 m d) (X3 m d) c = (A3 m d (ix1 (codeK (A2 m d) c 12 (by decide))) : EReal) := by
  unfold nrmW
  rw [X3_apply]
  have e : (⟨(IntOp.shrsi ArithUnit.vector (X2 m d (ix2 3 c)) 0#32).toNat % 256, Nat.mod_lt _ (by decide)⟩ : Fin 256)
      = codeK (A2 m d) c 12 (by decide) := by
    refine Fin.ext ?_
    show (IntOp.shrsi ArithUnit.vector (X2 m d (ix2 3 c)) (BitVec.ofNat 32 (8 * 0))).toNat % 256 = _
    rw [X2_apply, shrsi_code _ _ (by decide)]
    rfl
  rw [e]
  rfl

/-- The decoded vector the kernel adds up, of the codebooks' entries. -/
theorem recon_X (d : Dev nD) (K : Fin 200) (c : Fin 4992) :
    recon (X1 m d) (X2 m d) K c = ∑ b : Fin 12, (A1 m d (ix3 b (codeK (A2 m d) c b.val (by omega)) K) : EReal) := by
  unfold recon
  refine Finset.sum_congr rfl fun b _ => ?_
  rw [codeAt_X2, X1_apply]
  rfl

/-- A sum over three stacked blocks of 256 whose terms are zero past the first 200 of each block. -/
theorem sum_three (f : Fin 768 → EReal) (g0 g1 g2 : Fin 200 → EReal)
    (h0 : ∀ K : Fin 256, f ⟨K.val, by omega⟩ = if h : K.val < 200 then g0 ⟨K.val, h⟩ else 0)
    (h1 : ∀ K : Fin 256, f ⟨256 + K.val, by omega⟩ = if h : K.val < 200 then g1 ⟨K.val, h⟩ else 0)
    (h2 : ∀ K : Fin 256, f ⟨512 + K.val, by omega⟩ = if h : K.val < 200 then g2 ⟨K.val, h⟩ else 0) :
    ∑ K : Fin 768, f K = (∑ K, g0 K) + ((∑ K, g1 K) + ∑ K, g2 K) := by
  rw [← sum_pad (show 200 ≤ 256 by decide) g0, ← sum_pad (show 200 ≤ 256 by decide) g1, ← sum_pad (show 200 ≤ 256 by decide) g2]
  simp only [← h0, ← h1, ← h2]
  have e : ∑ K : Fin 768, f K = ∑ K : Fin (256 + (256 + 256)), f K := rfl
  rw [e, Fin.sum_univ_add, Fin.sum_univ_add]
  refine congrArg₂ (· + ·) (Finset.sum_congr rfl fun K _ => congrArg f (Fin.ext rfl))
    (congrArg₂ (· + ·) (Finset.sum_congr rfl fun K _ => congrArg f (Fin.ext rfl)) (Finset.sum_congr rfl fun K _ => congrArg f (Fin.ext ?_)))
  show 256 + (256 + K.val) = 512 + K.val
  omega

/-- One term of the long sum. -/
theorem term_eq (d : Dev nD) (n : Fin 6144) (c : Fin 4992) (K : Fin 256) (p : ℕ) (hp : p < 3) (w : Fin 200 → EReal)
    (hw : ∀ h : K.val < 200, wFull (X1 m d) (X2 m d) (ix2 ⟨256 * p + K.val, by omega⟩ ⟨c.val, by omega⟩) = w ⟨K.val, h⟩) :
    qK (QB m d ⟨n.val / 256, by omega⟩) ⟨n.val % 256, Nat.mod_lt _ (by decide)⟩ ⟨(256 * p + K.val) % 256, Nat.mod_lt _ (by decide)⟩
      * wFull (X1 m d) (X2 m d) (ix2 ⟨256 * p + K.val, by omega⟩ ⟨c.val, by omega⟩)
      = if h : K.val < 200 then (A0 m d (ix2 n ⟨K.val, h⟩) : EReal) * w ⟨K.val, h⟩ else 0 := by
  have e : (⟨(256 * p + K.val) % 256, Nat.mod_lt _ (by decide)⟩ : Fin 256) = K := Fin.ext (by show (256 * p + K.val) % 256 = K.val; omega)
  rw [e, qK_QB]
  by_cases h : K.val < 200
  · rw [dif_pos h, dif_pos h, hw h]
  · rw [dif_neg h, dif_neg h, zero_mul]

/-- The blocks of the decoded scratch. -/
theorem wFull_hi (d : Dev nD) (c : Fin 4992) (K : Fin 256) (h : K.val < 200) :
    wFull (X1 m d) (X2 m d) (ix2 ⟨256 * 0 + K.val, by omega⟩ ⟨c.val, by omega⟩) = hiW (X1 m d) (X2 m d) ⟨K.val, h⟩ c := by
  have e : (⟨(256 * 0 + K.val) % 256, by omega⟩ : Fin 200) = ⟨K.val, h⟩ := Fin.ext (by show (256 * 0 + K.val) % 256 = K.val; omega)
  show (if h : (256 * 0 + K.val) % 256 < 200 ∧ c.val < 4992 then
      (if 256 * 0 + K.val < 256 then hiW (X1 m d) (X2 m d) ⟨(256 * 0 + K.val) % 256, h.1⟩ ⟨c.val, h.2⟩
        else if 256 * 0 + K.val < 512 then midW (X1 m d) (X2 m d) ⟨(256 * 0 + K.val) % 256, h.1⟩ ⟨c.val, h.2⟩
        else loW (X1 m d) (X2 m d) ⟨(256 * 0 + K.val) % 256, h.1⟩ ⟨c.val, h.2⟩) else 0) = _
  rw [dif_pos ⟨by omega, c.isLt⟩, if_pos (by omega), e]
theorem wFull_mid (d : Dev nD) (c : Fin 4992) (K : Fin 256) (h : K.val < 200) :
    wFull (X1 m d) (X2 m d) (ix2 ⟨256 * 1 + K.val, by omega⟩ ⟨c.val, by omega⟩) = midW (X1 m d) (X2 m d) ⟨K.val, h⟩ c := by
  have e : (⟨(256 * 1 + K.val) % 256, by omega⟩ : Fin 200) = ⟨K.val, h⟩ := Fin.ext (by show (256 * 1 + K.val) % 256 = K.val; omega)
  show (if h : (256 * 1 + K.val) % 256 < 200 ∧ c.val < 4992 then
      (if 256 * 1 + K.val < 256 then hiW (X1 m d) (X2 m d) ⟨(256 * 1 + K.val) % 256, h.1⟩ ⟨c.val, h.2⟩
        else if 256 * 1 + K.val < 512 then midW (X1 m d) (X2 m d) ⟨(256 * 1 + K.val) % 256, h.1⟩ ⟨c.val, h.2⟩
        else loW (X1 m d) (X2 m d) ⟨(256 * 1 + K.val) % 256, h.1⟩ ⟨c.val, h.2⟩) else 0) = _
  rw [dif_pos ⟨by omega, c.isLt⟩, if_neg (by omega), if_pos (by omega), e]
theorem wFull_lo (d : Dev nD) (c : Fin 4992) (K : Fin 256) (h : K.val < 200) :
    wFull (X1 m d) (X2 m d) (ix2 ⟨256 * 2 + K.val, by omega⟩ ⟨c.val, by omega⟩) = loW (X1 m d) (X2 m d) ⟨K.val, h⟩ c := by
  have e : (⟨(256 * 2 + K.val) % 256, by omega⟩ : Fin 200) = ⟨K.val, h⟩ := Fin.ext (by show (256 * 2 + K.val) % 256 = K.val; omega)
  show (if h : (256 * 2 + K.val) % 256 < 200 ∧ c.val < 4992 then
      (if 256 * 2 + K.val < 256 then hiW (X1 m d) (X2 m d) ⟨(256 * 2 + K.val) % 256, h.1⟩ ⟨c.val, h.2⟩
        else if 256 * 2 + K.val < 512 then midW (X1 m d) (X2 m d) ⟨(256 * 2 + K.val) % 256, h.1⟩ ⟨c.val, h.2⟩
        else loW (X1 m d) (X2 m d) ⟨(256 * 2 + K.val) % 256, h.1⟩ ⟨c.val, h.2⟩) else 0) = _
  rw [dif_pos ⟨by omega, c.isLt⟩, if_neg (by omega), if_neg (by omega), e]

/-- THE KERNEL'S DISTANCE of query `n` and vector `c`: the squared query, the query times the three parts of the decoded vector, and
    the norm. -/
theorem distArr_apply (d : Dev nD) (n : Fin 6144) (c : Fin 4992) :
    (distArr m d (ix2 n c) : EReal)
      = (∑ K : Fin 200, (A0 m d (ix2 n K) : EReal) * (A0 m d (ix2 n K) : EReal))
        + ((∑ K : Fin 200, (A0 m d (ix2 n K) : EReal) * hiW (X1 m d) (X2 m d) K c)
          + ((∑ K : Fin 200, (A0 m d (ix2 n K) : EReal) * midW (X1 m d) (X2 m d) K c)
            + ∑ K : Fin 200, (A0 m d (ix2 n K) : EReal) * loW (X1 m d) (X2 m d) K c))
        + (A3 m d (ix1 (codeK (A2 m d) c 12 (by decide))) : EReal) := by
  have hd : (distArr m d (ix2 n c) : EReal)
      = (∑ K : Fin 256, qK (QB m d ⟨n.val / 256, by omega⟩) ⟨n.val % 256, Nat.mod_lt _ (by decide)⟩ ⟨K.val % 256, Nat.mod_lt _ (by decide)⟩
            * qK (QB m d ⟨n.val / 256, by omega⟩) ⟨n.val % 256, Nat.mod_lt _ (by decide)⟩ ⟨K.val % 256, Nat.mod_lt _ (by decide)⟩)
        + (∑ K : Fin 768, qK (QB m d ⟨n.val / 256, by omega⟩) ⟨n.val % 256, Nat.mod_lt _ (by decide)⟩ ⟨K.val % 256, Nat.mod_lt _ (by decide)⟩
            * wFull (X1 m d) (X2 m d) (ix2 K ⟨c.val, by omega⟩))
        + nrmW (X2 m d) (X3 m d) c := rfl
  rw [hd, nrmW_X]
  congr 2
  · rw [← sum_pad (show 200 ≤ 256 by decide)]
    refine Finset.sum_congr rfl fun K _ => ?_
    have e : (⟨K.val % 256, Nat.mod_lt _ (by decide)⟩ : Fin 256) = K := Fin.ext (Nat.mod_eq_of_lt K.isLt)
    rw [e, qK_QB]
    by_cases h : K.val < 200
    · rw [dif_pos h, dif_pos h]
    · rw [dif_neg h, dif_neg h, zero_mul]
  · refine sum_three _ _ _ _ (fun K => ?_) (fun K => ?_) (fun K => ?_)
    · refine Eq.trans ?_ (term_eq m d n c K 0 (by decide) (fun K => hiW (X1 m d) (X2 m d) K c) (wFull_hi m d c K))
      have e : (⟨K.val, by omega⟩ : Fin 768) = ⟨256 * 0 + K.val, by omega⟩ := Fin.ext (by show K.val = 256 * 0 + K.val; omega)
      rw [e]
    · exact term_eq m d n c K 1 (by decide) (fun K => midW (X1 m d) (X2 m d) K c) (wFull_mid m d c K)
    · exact term_eq m d n c K 2 (by decide) (fun K => loW (X1 m d) (X2 m d) K c) (wFull_lo m d c K)

/-- Where the query's row and the codebooks are finite, it is the squared query less twice the coded products, and the norm. -/
theorem distArr_finite (d : Dev nD) (n : Fin 6144) (c : Fin 4992)
    (hq : ∀ K : Fin 200, ∃ r : ℝ, (A0 m d (ix2 n K) : EReal) = (r : EReal))
    (hb : ∀ j : S12x256x200.Idx, ∃ r : ℝ, (A1 m d j : EReal) = (r : EReal)) :
    (distArr m d (ix2 n c) : EReal)
      = (0 + ∑ K : Fin 200, (A0 m d (ix2 n K) : EReal) * (A0 m d (ix2 n K) : EReal))
        - ((2 : ℝ) : EReal) * (0 + ∑ b : Fin 12, ∑ K : Fin 200, (A0 m d (ix2 n K) : EReal) * (A1 m d (ix3 b (codeK (A2 m d) c b.val (by omega)) K) : EReal))
        + (A3 m d (ix1 (codeK (A2 m d) c 12 (by decide))) : EReal) := by
  choose q hq using hq
  choose e he using hb
  rw [distArr_apply]
  unfold loW midW hiW
  simp only [recon_X, neg_two, hq, he]
  exact dist_eq q (fun b K => e (ix3 b (codeK (A2 m d) c b.val (by omega)) K)) _

end Cert.KernelIdeal.Own

end
-- ==== Proof.RefDist.lean ====
/- The reference's distances at an index: the squared query, twice the coded products, and the norm. -/
module

public import proofs.«01_k».proof.Proof.Gen.ReferenceIdeal.Read
public import proofs.«01_k».proof.Proof.DistMath
public import Idealize.ShloMosaic.Lib.Routing.OpsSet
public import Idealize.ShloMosaic.Lib.Pointwise

@[expose] public section

-- lists over axes of production extents: the elaborator recurses once per coordinate
set_option maxRecDepth 16384

noncomputable section

namespace Cert.Own

open Idealize.ShloMosaic Cert.ReferenceIdeal Cert.ReferenceIdeal.Gen Cert.ReferenceIdeal.Read

/-! ## The columns a list of column numbers picks -/

/-- A gather of whole columns reads column `b` wherever the column number is `b`. -/
theorem gather_cols {α : Type} (d : GatherDims S6144x3072 S4992x12x1 S6144x4992x12)
    (hoff : d.offsetDims = [0]) (hcoll : d.collapsedSliceDims = [1]) (hob : d.operandBatchingDims = [])
    (hsb : d.startIndicesBatchingDims = []) (hsim : d.startIndexMap = [1]) (hivd : d.indexVectorDim = 2) (hsl : d.sliceSizes = ![6144, 1])
    (x : S6144x3072.Idx → α) (idx : IVec S4992x12x1 32) (n : Fin 6144) (p : Fin 4992) (k : Fin 12) (b : Fin 3072)
    (hb : idx (ix3 p k (0 : Fin 1)) = BitVec.ofNat 32 b.val) :
    Host.gather d x idx (ix3 n p k) = x (ix2 n b) := by
  obtain ⟨_, _, _, _, _, _, _, wf⟩ := d
  subst hoff; subst hcoll; subst hob; subst hsb; subst hsim; subst hivd; subst hsl
  unfold Host.gather
  congr 1
  funext a
  refine Fin.ext ?_
  match a with
  | ⟨0, _⟩ =>
    show GatherDims.start _ (ix3 n p k) idx 0 + GatherDims.batchCoord _ (ix3 n p k) 0 + GatherDims.offCoord _ (ix3 n p k) 0 = n.val
    rw [GatherDims.batchCoord_eq_zero _ _ _ List.not_mem_nil]
    unfold GatherDims.start
    rw [dif_neg (show ¬(0 : Fin 2) ∈ ([1] : List (Fin 2)) by decide)]
    simp only [Nat.zero_add, Nat.add_zero]
    rfl
  | ⟨1, _⟩ =>
    show GatherDims.start _ (ix3 n p k) idx 1 + GatherDims.batchCoord _ (ix3 n p k) 1 + GatherDims.offCoord _ (ix3 n p k) 1 = b.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    refine (congrArg (fun i => min (idx i).toInt.toNat (3072 - 1)) (?_ : _ = ix3 p k (0 : Fin 1))).trans ?_
    · funext e; refine Fin.ext ?_
      match e with
      | ⟨0, _⟩ => rfl
      | ⟨1, _⟩ => rfl
      | ⟨2, _⟩ => rfl
    · have hl := b.isLt
      show min (idx (ix3 p k (0 : Fin 1))).toInt.toNat (3072 - 1) = b.val
      rw [hb, StableHlo.Predicate.toInt_ofNat_small _ (by omega)]
      omega

/-! ## The codes -/

variable (x0 : Vec Ideal S6144x200 .bf16) (x1 : Vec Ideal S12x256x200 .bf16) (x2 : Vec Ideal S4992x4 .i32) (x3 : Vec Ideal S256 .f32)

/-- The code of vector `c` in place `b` of the sixteen: place `b % 4` of word `b / 4`. -/
def codeR (c : Fin 4992) (b : ℕ) (hb : b < 16) : Fin 256 := codeOf (x2 (ix2 c ⟨b / 4, by omega⟩)) (b % 4)

/-- The unpacked codes hold the codes. -/
theorem v15_code (c : Fin 4992) (b : ℕ) (hb : b < 16) :
    val_main_v15 (F := Ideal) x2 (ix2 c ⟨b, hb⟩) = BitVec.ofNat 32 (codeR x2 c b hb).val := by
  rw [val_main_v15_apply, val_main_v14_apply, val_main_v13_apply, val_main_v11_apply, val_main_v9_apply, val_main_v7_apply,
    val_main_v10_apply, val_main_v8_apply, val_main_v6_apply, val_main_v5_apply, val_main_c_apply, val_main_v4_apply,
    val_main_v12_apply, val_main_c_0_apply]
  have hw : (idx_main_v7 (idx_main_v9 (idx_main_v14 (ix2 c ⟨b, hb⟩)))) = ix2 c ⟨b / 4, by omega⟩ := funext fun a => Fin.ext (by
    match a with
    | ⟨0, _⟩ => show (c.val * 16 + b) / 16 = c.val; omega
    | ⟨1, _⟩ => show (c.val * 16 + b) / 4 % 4 = b / 4; omega)
  have hs : ((idx_main_v8 (idx_main_v10 (idx_main_v14 (ix2 c ⟨b, hb⟩)))) 0).val = b % 4 := by
    show (c.val * 16 + b) % 4 = b % 4; omega
  have hm : IntOp.muli 8#32 (BitVec.ofNat 32 (b % 4)) = BitVec.ofNat 32 (8 * (b % 4)) := by
    have h : ∀ f : Fin 4, IntOp.muli 8#32 (BitVec.ofNat 32 f.val) = BitVec.ofNat 32 (8 * f.val) := by decide
    exact h ⟨b % 4, Nat.mod_lt _ (by decide)⟩
  rw [hw, hs, hm]
  exact shrui_code _ _ (Nat.mod_lt _ (by decide))

/-- A small word is not negative: the reference's guard against negative numbers passes it on. -/
theorem guard_small (n : ℕ) (hn : n < 2 ^ 31) (a : BitVec 32) :
    Scalar.select (IntOp.cmpi .slt (BitVec.ofNat 32 n) 0#32) a (BitVec.ofNat 32 n) = BitVec.ofNat 32 n := by
  have h : IntOp.cmpi .slt (BitVec.ofNat 32 n) 0#32 = 0#1 := by
    show BitVec.ofBool ((BitVec.ofNat 32 n).slt 0#32) = 0#1
    have e : (BitVec.ofNat 32 n).slt 0#32 = false := by
      rw [BitVec.slt, StableHlo.Predicate.toInt_ofNat_small _ hn]
      simp
    rw [e]; rfl
  rw [h]; rfl

/-- The column of book `k` and vector `c`. -/
def colR (c : Fin 4992) (k : Fin 12) : Fin 3072 := ⟨256 * k.val + (codeR x2 c k.val (by omega)).val, by omega⟩

/-- The column numbers hold the columns. -/
theorem v31_col (c : Fin 4992) (k : Fin 12) :
    val_main_v31 (F := Ideal) x2 (ix3 c k (0 : Fin 1)) = BitVec.ofNat 32 (colR x2 c k).val := by
  have h24 : val_main_v24 (F := Ideal) x2 (ix2 c k) = BitVec.ofNat 32 (colR x2 c k).val := by
    rw [val_main_v24_apply, val_main_v16_apply, val_main_v23_apply, val_main_v22_apply, val_main_v21_apply, val_main_c_1_apply,
      val_main_v20_apply, val_main_v19_apply]
    have e : idx_main_v16 (ix2 c k) = ix2 c ⟨k.val, by omega⟩ := funext fun a => Fin.ext (by
      match a with
      | ⟨0, _⟩ => rfl
      | ⟨1, _⟩ => rfl)
    have ek : ((idx_main_v20 (idx_main_v23 (ix2 c k))) 0).val = k.val := rfl
    rw [e, v15_code, ek]
    apply BitVec.eq_of_toNat_eq
    show (BitVec.ofNat 32 _ + 256#32 * BitVec.ofNat 32 k.val).toNat = _
    have hc := (codeR x2 c k.val (by omega)).isLt
    have hk := k.isLt
    rw [BitVec.toNat_add, BitVec.toNat_mul]
    simp only [BitVec.toNat_ofNat, colR]
    omega
  rw [val_main_v31_apply]
  have e : idx_main_v31 (ix3 c k (0 : Fin 1)) = ix2 c k := funext fun a => Fin.ext (by
    match a with
    | ⟨0, _⟩ => rfl
    | ⟨1, _⟩ => rfl)
  rw [e, val_main_v30_apply, val_main_v27_apply, h24, val_main_v26_apply, val_main_c_2_apply]
  exact guard_small _ (by have := (colR x2 c k).isLt; omega) _

/-- The gathered products. -/
theorem v32_eq (n : Fin 6144) (c : Fin 4992) (k : Fin 12) :
    val_main_v32 (F := Ideal) x0 x1 x2 (ix3 n c k)
      = val_main_v0 (F := Ideal) x0 x1 (ix3 n k (codeR x2 c k.val (by omega))) := by
  unfold val_main_v32
  rw [gather_cols _ rfl rfl rfl rfl rfl rfl rfl _ _ n c k (colR x2 c k) (v31_col x2 c k), val_main_v25_apply]
  congr 1
  have hc := (codeR x2 c k.val (by omega)).isLt
  funext a
  refine Fin.ext ?_
  match a with
  | ⟨0, _⟩ => show (n.val * 3072 + (256 * k.val + (codeR x2 c k.val (by omega)).val)) / 3072 = n.val; omega
  | ⟨1, _⟩ => show (n.val * 3072 + (256 * k.val + (codeR x2 c k.val (by omega)).val)) / 256 % 12 = k.val; omega
  | ⟨2, _⟩ => show (n.val * 3072 + (256 * k.val + (codeR x2 c k.val (by omega)).val)) % 256 = (codeR x2 c k.val (by omega)).val; omega

/-- The gathered norms. -/
theorem v40_eq (c : Fin 4992) :
    val_main_v40 (F := Ideal) x2 x3 (ix1 c) = x3 (ix1 (codeR x2 c 12 (by decide))) := by
  unfold val_main_v40
  refine Routing.gather_take1 _ rfl rfl rfl rfl x3 _ c (codeR x2 c 12 (by decide)) ?_ (by decide)
  have h18 : val_main_v18 (F := Ideal) x2 (ix1 c) = BitVec.ofNat 32 (codeR x2 c 12 (by decide)).val := by
    rw [val_main_v18_apply, val_main_v17_apply, ← v15_code]
    congr 1
    funext a
    refine Fin.ext ?_
    match a with
    | ⟨0, _⟩ => show c.val / 1 = c.val; omega
    | ⟨1, _⟩ => rfl
  rw [val_main_v39_apply]
  have e : idx_main_v39 (ValueIdx.ix2 c (0 : Fin 1)) = ix1 c := funext fun a => Fin.ext (by
    match a with
    | ⟨0, _⟩ => rfl)
  rw [e, val_main_v38_apply, val_main_v35_apply, h18, val_main_v34_apply, val_main_c_5_apply]
  exact guard_small _ (by have := (codeR x2 c 12 (by decide)).isLt; omega) _

/-- The reference's table at an index is the sum of products. -/
theorem v0_at (n : Fin 6144) (b : Fin 12) (k : Fin 256) :
    val_main_v0 (F := Ideal) x0 x1 (ix3 n b k) = ∑ K : Fin 200, ((x0 (ix2 n K) : EReal) * (x1 (ix3 b k K) : EReal)) := by
  refine (val_main_v0_apply x0 x1 _).trans ?_
  refine Finset.sum_congr rfl fun K _ => ?_
  have e0 : lidx_main_v0 (ix3 n b k) K = ix2 n K := funext fun a => by
    match a with
    | ⟨0, _⟩ => rfl
    | ⟨1, _⟩ => rfl
  have e1 : ridx_main_v0 (ix3 n b k) K = ix3 b k K := funext fun a => by
    match a with
    | ⟨0, _⟩ => rfl
    | ⟨1, _⟩ => rfl
    | ⟨2, _⟩ => rfl
  rw [e0, e1]

/-- THE REFERENCE'S DISTANCE of query `n` and vector `c`. -/
theorem ref_dist (n : Fin 6144) (c : Fin 4992) :
    (val_main_v48 (F := Ideal) x0 x1 x2 x3 (ix2 n c) : EReal)
      = (0 + ∑ K : Fin 200, (x0 (ix2 n K) : EReal) * (x0 (ix2 n K) : EReal))
        - ((2 : ℝ) : EReal) * (0 + ∑ b : Fin 12, ∑ K : Fin 200, (x0 (ix2 n K) : EReal) * (x1 (ix3 b (codeR x2 c b.val (by omega)) K) : EReal))
        + (x3 (ix1 (codeR x2 c 12 (by decide))) : EReal) := by
  have h3 : (val_main_v44 (F := Ideal) x0 (ix2 n c) : EReal)
      = 0 + ∑ K : Fin 200, (x0 (ix2 n K) : EReal) * (x0 (ix2 n K) : EReal) := by
    rw [val_main_v44_apply, val_main_v41_apply, val_main_v3_apply, val_main_cst_apply]
    congr 1
    · exact Ideal.ofBits_zero_f32
    · refine Finset.sum_congr rfl fun K _ => ?_
      have e : idx_main_v3 (idx_main_v41 (idx_main_v44 (ix2 n c))) K = ix2 n K := funext fun a => by
        match a with
        | ⟨0, _⟩ => rfl
        | ⟨1, _⟩ => rfl
      rw [e]
      rfl
  have h33 : (val_main_v33 (F := Ideal) x0 x1 x2 (ix2 n c) : EReal)
      = 0 + ∑ b : Fin 12, ∑ K : Fin 200, (x0 (ix2 n K) : EReal) * (x1 (ix3 b (codeR x2 c b.val (by omega)) K) : EReal) := by
    rw [val_main_v33_apply, val_main_cst_4_apply]
    congr 1
    · exact Ideal.ofBits_zero_f32
    · refine Finset.sum_congr rfl fun b _ => ?_
      have e : idx_main_v33 (ix2 n c) b = ix3 n c b := funext fun a => by
        match a with
        | ⟨0, _⟩ => rfl
        | ⟨1, _⟩ => rfl
        | ⟨2, _⟩ => rfl
      rw [e, v32_eq, v0_at]
  have h42 : (val_main_v42 (F := Ideal) (ix2 n c) : EReal) = ((2 : ℝ) : EReal) := by
    rw [val_main_v42_apply, val_main_cst_7_apply]
    exact pos_two
  have h47 : val_main_v47 (F := Ideal) x2 x3 (ix2 n c) = x3 (ix1 (codeR x2 c 12 (by decide))) := by
    rw [val_main_v47_apply, val_main_v46_apply]
    have e : idx_main_v46 (idx_main_v47 (ix2 n c)) = ix1 c := funext fun a => by
      match a with
      | ⟨0, _⟩ => rfl
    rw [e, v40_eq]
  rw [val_main_v48_apply, val_main_v45_apply, val_main_v43_apply]
  rw [← h3, ← h33, ← h42, ← h47]
  rfl

end Cert.Own

end
-- ==== Proof.Mask.lean ====
/- What the mask of the distances says: the query row and the codebooks are finite. -/
module

public import proofs.«01_k».proof.On_where_finite
public import Idealize.ShloMosaic.Lib.Pointwise
public import Idealize.ShloMosaic.Lib.ReduceAll
public import Idealize.ShloMosaic.Lib.Pipeline.Value
public import Idealize.ShloMosaic.PureOps.Ideal.Laws

@[expose] public section

set_option maxRecDepth 16384

noncomputable section

namespace Cert.Own

open Idealize.ShloMosaic Cert.On_where_finite

/-- The side conditions of the mask's operations. -/
theorem maskFacts : Cert.On_where_finite.Facts :=
  ⟨by decide, by decide, by decide, by decide, by decide, by decide, by decide, by decide, by decide, by decide⟩

/-- A number whose size is below the largest is a real number. -/
theorem finite_of_lt (x : EReal) (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => exact absurd h (by simp [Ideal.cmp])
  | coe r => exact ⟨r, rfl⟩
  | top => exact absurd h (by simp [Ideal.cmp])

/-- WHERE THE MASK HOLDS, the query's row is finite and so are the codebooks. -/
theorem mask_finite (x0 : Vec Ideal S6144x200 .bf16) (x1 : Vec Ideal S12x256x200 .bf16) (x2 : Vec Ideal S4992x4 .i32)
    (x3 : Vec Ideal S256 .f32) (n : Fin 6144) (c : Fin 4992)
    (h : (@Cert.On_where_finite.fn maskFacts Ideal _ x0 x1 x2 x3).1 (ix2 n c) = 1#1) :
    (∀ K : Fin 200, ∃ r : ℝ, (x0 (ix2 n K) : EReal) = (r : EReal)) ∧ ∀ j : S12x256x200.Idx, ∃ r : ℝ, (x1 j : EReal) = (r : EReal) := by
  haveI := maskFacts
  unfold Cert.On_where_finite.fn at h
  dsimp only at h
  rw [broadcastInDim_apply _ _ _ (ix2 n c) (ix2 n (0 : Fin 1)) (fun a => by
      match a with
      | ⟨0, _⟩ => show n.val = if (6144 : Nat) = 1 then 0 else n.val; rw [if_neg (by decide)]
      | ⟨1, _⟩ => show 0 = if (1 : Nat) = 1 then 0 else c.val; rw [if_pos rfl]),
    broadcastInDim_apply _ _ _ (ix2 n (0 : Fin 1)) (ix1 n) (fun a => by
      match a with
      | ⟨0, _⟩ => show n.val = if (6144 : Nat) = 1 then 0 else n.val; rw [if_neg (by decide)])] at h
  obtain ⟨hq, hb⟩ := IntOp.andi_eq_one.1 h
  rw [broadcastInDim_apply _ _ _ (ix1 n) (fun a => a.elim0) (fun a => a.elim0)] at hb
  constructor
  · intro K
    have := Host.reduce_andi_eq_one _ _ _ _ (ix1 n) hq (ix2 n K) (funext fun a => Fin.ext (by
      match a with
      | ⟨0, _⟩ => rfl))
    exact finite_of_lt _ this
  · intro j
    haveI : Subsingleton S_.Idx := ⟨fun a b => funext fun i => i.elim0⟩
    exact finite_of_lt _ (Host.reduce_andi_all _ _ _ _ _ hb j)

end Cert.Own

end
-- ==== Proof.Equation.lean ====
/- The claim that the kernel and the reference compute the same over the extended reals: the table of products at every input,
   and the distances wherever the query row and the codebooks are finite. -/
module

public import proofs.«01_k».proof.Defs
public import proofs.«01_k».proof.Proof.KernelIdealDist
public import proofs.«01_k».proof.Proof.RefDist
public import proofs.«01_k».proof.Proof.Mask

@[expose] public section

noncomputable section

namespace Cert.Own

open Idealize.ShloMosaic Idealize.ShloMosaic.TcCoe Idealize.SL.Sem

/-- The reference's table of products is the kernel's. -/
theorem ref_lut (x0 : Vec Ideal Cert.ReferenceIdeal.S6144x200 .bf16) (x1 : Vec Ideal Cert.ReferenceIdeal.S12x256x200 .bf16) :
    Cert.ReferenceIdeal.Read.val_main_v0 (F := Ideal) x0 x1 = Cert.KernelIdeal.Own.lutRes x0 x1 := by
  funext i
  refine (Cert.ReferenceIdeal.Read.val_main_v0_apply x0 x1 i).trans ?_
  refine Finset.sum_congr rfl fun K _ => ?_
  have e0 : Cert.ReferenceIdeal.Read.lidx_main_v0 i K = ix2 (i 0) K := funext fun a => by
    match a with
    | ⟨0, _⟩ => rfl
    | ⟨1, _⟩ => rfl
  have e1 : Cert.ReferenceIdeal.Read.ridx_main_v0 i K = ix3 (i 1) (i 2) K := funext fun a => by
    match a with
    | ⟨0, _⟩ => rfl
    | ⟨1, _⟩ => rfl
    | ⟨2, _⟩ => rfl
  rw [e0, e1]
  rfl

/-- Where the query's row and the codebooks are finite, the reference's distance is the kernel's. -/
theorem ref_dist_eq (m : (ℓ : Loc Cert.KernelIdeal.nD Cert.KernelIdeal.τ Cert.KernelIdeal.sig) → Buf (Elt Ideal) ℓ) (d : Dev Cert.KernelIdeal.nD)
    (n : Fin 6144) (c : Fin 4992)
    (hq : ∀ K : Fin 200, ∃ r : ℝ, (Cert.KernelIdeal.Own.A0 m d (ix2 n K) : EReal) = (r : EReal))
    (hb : ∀ j : Cert.KernelIdeal.S12x256x200.Idx, ∃ r : ℝ, (Cert.KernelIdeal.Own.A1 m d j : EReal) = (r : EReal)) :
    Cert.ReferenceIdeal.Read.val_main_v48 (F := Ideal) (Cert.KernelIdeal.Own.A0 m d) (Cert.KernelIdeal.Own.A1 m d)
        (Cert.KernelIdeal.Own.A2 m d) (Cert.KernelIdeal.Own.A3 m d) (ix2 n c)
      = Cert.KernelIdeal.Own.distArr m d (ix2 n c) :=
  (ref_dist _ _ _ _ n c).trans (Cert.KernelIdeal.Own.distArr_finite m d n c hq hb).symm

/-- THE VALUE CLAIM: the runs of the two programs end with equal distances wherever the mask holds, and equal tables of products. -/
theorem algebraic : Cert.algebraic_KernelIdeal_ReferenceIdeal_on_where_finite (hKernelIdeal := Cert.KernelIdeal.Gen.facts)
    (hReferenceIdeal := Cert.ReferenceIdeal.Gen.facts) (hOn_where_finite := maskFacts) := by
  intro m g m' g' _ hagree
  refine ⟨fun c => Cert.KernelIdeal.Own.distArr m c, fun c => Cert.KernelIdeal.Own.lutRes
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run _ _ _).mono (fun r h c => ?_) (Cert.KernelIdeal.Own.run_values m g)
    obtain ⟨h0, h1, ha⟩ := h c
    exact ⟨fun i _ => congrFun h0 i, fun i _ => congrFun h1 i, ha⟩
  · refine (θ_run _ _ _).mono (fun r h c => ?_) (Cert.ReferenceIdeal.Value.run m' g')
    obtain ⟨h0, h1, ha⟩ := h c
    obtain ⟨e0, e1, e2, e3⟩ := hagree c
    refine ⟨fun i hi => ?_, fun i _ => ?_, ha⟩
    · obtain ⟨n, k, rfl⟩ : ∃ (n : Fin 6144) (k : Fin 4992), i = ix2 n k := ⟨i 0, i 1, eq_ix2 i⟩
      obtain ⟨hq, hb⟩ := mask_finite _ _ _ _ n k hi
      rw [h0, Cert.ReferenceIdeal.Read.val_main_v48_eq, e0, e1, e2, e3]
      exact ref_dist_eq m c n k hq hb
    · rw [h1, e0, e1]
      exact congrFun (ref_lut _ _) i

end Cert.Own

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.KernelFrame
public import proofs.«01_k».proof.Proof.KernelIdealFrame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.RefFrame
public import proofs.«01_k».proof.Proof.Equation
public import Idealize.ShloMosaic.PureOps.IdealRules
public import Idealize.ShloMosaic.Lib.Bf16Pair
public import Idealize.ShloMosaic.Adequacy
public import Idealize.ShloMosaic.Init

@[expose] public section

noncomputable section

namespace Cert.Proof

open Idealize.ShloMosaic Idealize.SL.Sem Cert.Kernel

/-- All the claims: the three frames, that the idealized kernel is the kernel by the listed rules, and that the kernel and the
    reference compute the same over the extended reals. -/
theorem claim : Cert.Claim := ⟨Cert.Kernel.Gen.facts, Cert.KernelIdeal.Gen.facts, Cert.ReferenceIdeal.Gen.facts, Cert.Own.maskFacts,
  fun m g _ => Cert.Kernel.Own.frame m g,
  fun m g _ => Cert.KernelIdeal.Own.frame m g,
  Cert.ReferenceIdeal.Own.frame,
  ⟨IdealRules.bf16_pair.statement _ _, IdealRules.bf16_pack.statement _⟩,
  Cert.Own.algebraic⟩

end Cert.Proof

end
